-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_and_scales [hPre_gates_and_scales : Cert.Pre_gates_and_scales.Facts] (m : (ℓ : Loc Cert.KernelIdeal.nD Cert.KernelIdeal.τ Cert.KernelIdeal.sig) → Buf (Elt Ideal) ℓ) : Prop :=
  ∀ c : Dev Cert.KernelIdeal.nD,
    (Cert.Pre_gates_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_and_scales [hPre_gates_and_scales : Cert.Pre_gates_and_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_and_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_gates_and_scales [hKernelIdeal : Cert.KernelIdeal.Facts] [hPre_gates_and_scales : Cert.Pre_gates_and_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_and_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_gates_and_scales [hReferenceIdeal : Cert.ReferenceIdeal.Facts] [hPre_gates_and_scales : Cert.Pre_gates_and_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_and_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_gates_and_scales [hKernelIdeal : Cert.KernelIdeal.Facts] [hReferenceIdeal : Cert.ReferenceIdeal.Facts] [hPre_gates_and_scales : Cert.Pre_gates_and_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_and_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v9_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v9_5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v343) = v0 c
          ∧ r.2.mem ((c.tc : Thread Cert.ReferenceIdeal.nD Cert.ReferenceIdeal.τ).loc Cert.ReferenceIdeal.main_v346) = v1 c
          ∧ r.2.mem ((c.tc : Thread Cert.ReferenceIdeal.nD Cert.ReferenceIdeal.τ).loc Cert.ReferenceIdeal.main_v349) = v2 c
          ∧ r.2.mem ((c.tc : Thread Cert.ReferenceIdeal.nD Cert.ReferenceIdeal.τ).loc Cert.ReferenceIdeal.main_v307) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_gates_and_scales : Cert.Pre_gates_and_scales.Facts),
    quiescent_Kernel (hKernel := hKernel)
    ∧ quiescent_KernelIdeal (hKernelIdeal := hKernelIdeal)
    ∧ quiescent_KernelIdeal_pre_gates_and_scales (hKernelIdeal := hKernelIdeal) (hPre_gates_and_scales := hPre_gates_and_scales)
    ∧ quiescent_ReferenceIdeal (hReferenceIdeal := hReferenceIdeal)
    ∧ quiescent_ReferenceIdeal_pre_gates_and_scales (hReferenceIdeal := hReferenceIdeal) (hPre_gates_and_scales := hPre_gates_and_scales)
    ∧ preserves_Kernel_KernelIdeal
    ∧ algebraic_KernelIdeal_ReferenceIdeal_pre_gates_and_scales (hKernelIdeal := hKernelIdeal) (hReferenceIdeal := hReferenceIdeal) (hPre_gates_and_scales := hPre_gates_and_scales)
-- ==== Pre_gates_and_scales.lean ====
abbrev S2x896x5x256 : Shape := ⟨4, ![2, 896, 5, 256]⟩
abbrev S2x14x5 : Shape := ⟨3, ![2, 14, 5]⟩
abbrev S2x896x5x512 : Shape := ⟨4, ![2, 896, 5, 512]⟩
abbrev S2x896x5 : Shape := ⟨3, ![2, 896, 5]⟩
abbrev S2x5x256x512 : Shape := ⟨4, ![2, 5, 256, 512]⟩
abbrev S_ : Shape := ⟨0, ![]⟩

class Facts : Prop where
  bcast_S_S2x896x5x256 : S_.BroadcastsInDim S2x896x5x256 (![] : Fin 0 → Fin S2x896x5x256.rank)
  reducesTo_S2x896x5x256_S_d0_1_2_3 : S2x896x5x256.ReducesTo [0, 1, 2, 3] S_
  h_S_ : 0 < S_.numel
  bcast_S_S2x14x5 : S_.BroadcastsInDim S2x14x5 (![] : Fin 0 → Fin S2x14x5.rank)
  reducesTo_S2x14x5_S_d0_1_2 : S2x14x5.ReducesTo [0, 1, 2] S_

variable [Facts]

def fn {F : FTy → Type} [FloatOps F] (main_arg0 : FVec F S2x896x5x256 .fp8e4m3) (main_arg1 : FVec F S2x896x5x256 .fp8e4m3) (main_arg2 : FVec F S2x14x5 .f32) (main_arg3 : FVec F S2x14x5 .f32) (main_arg4 : FVec F S2x896x5x512 .fp8e4m3) (main_arg5 : FVec F S2x14x5 .f32) (main_arg6 : FVec F S2x896x5x512 .fp8e5m2) (main_arg7 : FVec F S2x896x5 .f32) (main_arg8 : FVec F S2x896x5x256 .f32) (main_arg9 : FVec F S2x5x256x512 .f32) (main_arg10 : FVec F S2x5x256x512 .f32) : IVec S_ 1 :=
  let main_cst : FVec F S_ .f32 := constant S_ .f32 0x7F800000#32
  let main_v0 : FVec F S2x896x5x256 .f32 := broadcastInDim S2x896x5x256 ![] bcast_S_S2x896x5x256 main_cst
  let main_v1 : IVec S2x896x5x256 1 := cmpf .olt main_arg8 main_v0
  let main_c : IVec S_ 1 := constantI S_ 1 1#1
  let main_v2 : IVec S_ 1 := (fun x v => Host.reduce IntOp.andi x v reducesTo_S2x896x5x256_S_d0_1_2_3 h_S_) main_v1 main_c
  let main_cst_0 : FVec F S_ .f32 := constant S_ .f32 0x00000000#32
  let main_v3 : FVec F S2x14x5 .f32 := broadcastInDim S2x14x5 ![] bcast_S_S2x14x5 main_cst_0
  let main_v4 : IVec S2x14x5 1 := cmpf .oge main_arg5 main_v3
  let main_cst_1 : FVec F S_ .f32 := constant S_ .f32 0x7F800000#32
  let main_v5 : FVec F S2x14x5 .f32 := broadcastInDim S2x14x5 ![] bcast_S_S2x14x5 main_cst_1
  let main_v6 : IVec S2x14x5 1 := cmpf .olt main_arg5 main_v5
  let main_v7 : IVec S2x14x5 1 := andi main_v4 main_v6
  let main_c_2 : IVec S_ 1 := constantI S_ 1 1#1
  let main_v8 : IVec S_ 1 := (fun x v => Host.reduce IntOp.andi x v reducesTo_S2x14x5_S_d0_1_2 h_S_) main_v7 main_c_2
  let main_v9 : IVec S_ 1 := andi main_v2 main_v8
  main_v9
-- ==== Kernel.lean ====
abbrev S2x896x5x256 : Shape := ⟨4, ![2, 896, 5, 256]⟩
abbrev S2x14x5 : Shape := ⟨3, ![2, 14, 5]⟩
abbrev S2x896x5x512 : Shape := ⟨4, ![2, 896, 5, 512]⟩
abbrev S2x896x5 : Shape := ⟨3, ![2, 896, 5]⟩
abbrev S2x5x256x512 : Shape := ⟨4, ![2, 5, 256, 512]⟩
abbrev S5x2x14 : Shape := ⟨3, ![5, 2, 14]⟩
abbrev S2x5x896x256 : Shape := ⟨4, ![2, 5, 896, 256]⟩
abbrev S2x5x896x512 : Shape := ⟨4, ![2, 5, 896, 512]⟩
abbrev S5x2x896 : Shape := ⟨3, ![5, 2, 896]⟩
abbrev S1x1x896x256 : Shape := ⟨4, ![1, 1, 896, 256]⟩
abbrev S1x1x896x512 : Shape := ⟨4, ![1, 1, 896, 512]⟩
abbrev S1x1x256x512 : Shape := ⟨4, ![1, 1, 256, 512]⟩
abbrev S512x256 : Shape := ⟨2, ![512, 256]⟩
abbrev S896x256 : Shape := ⟨2, ![896, 256]⟩
abbrev S14x256 : Shape := ⟨2, ![14, 256]⟩
abbrev S14x64x64 : Shape := ⟨3, ![14, 64, 64]⟩
abbrev S896x128 : Shape := ⟨2, ![896, 128]⟩
abbrev S64x64 : Shape := ⟨2, ![64, 64]⟩
abbrev S64x192 : Shape := ⟨2, ![64, 192]⟩
abbrev S1x2x128 : Shape := ⟨3, ![1, 2, 128]⟩
abbrev S2x128 : Shape := ⟨2, ![2, 128]⟩
abbrev S128 : Shape := ⟨1, ![128]⟩
abbrev S1x128 : Shape := ⟨2, ![1, 128]⟩
abbrev S128x128 : Shape := ⟨2, ![128, 128]⟩
abbrev S256x512 : Shape := ⟨2, ![256, 512]⟩
abbrev S1x1x1 : Shape := ⟨3, ![1, 1, 1]⟩
abbrev S1x1x64x256 : Shape := ⟨4, ![1, 1, 64, 256]⟩
abbrev S64x256 : Shape := ⟨2, ![64, 256]⟩
abbrev S192x256 : Shape := ⟨2, ![192, 256]⟩
abbrev S1x256 : Shape := ⟨2, ![1, 256]⟩
abbrev S1x1x64x512 : Shape := ⟨4, ![1, 1, 64, 512]⟩
abbrev S64x512 : Shape := ⟨2, ![64, 512]⟩
abbrev S64x128 : Shape := ⟨2, ![64, 128]⟩
abbrev S1x64x64 : Shape := ⟨3, ![1, 64, 64]⟩
abbrev S256 : Shape := ⟨1, ![256]⟩

abbrev nBuf : Space → Nat
  | .hbm => 29
  | .vmem => 37
  | .smem => 3
  | _ => 0

abbrev bufTy : (tb : Table) → Fin (tcTables nBuf tb) → BufTy
  | .hbm, ⟨0, _⟩ => ⟨S2x896x5x256, .fp8e4m3⟩
  | .hbm, ⟨1, _⟩ => ⟨S2x896x5x256, .fp8e4m3⟩
  | .hbm, ⟨2, _⟩ => ⟨S2x14x5, .f32⟩
  | .hbm, ⟨3, _⟩ => ⟨S2x14x5, .f32⟩
  | .hbm, ⟨4, _⟩ => ⟨S2x896x5x512, .fp8e4m3⟩
  | .hbm, ⟨5, _⟩ => ⟨S2x14x5, .f32⟩
  | .hbm, ⟨6, _⟩ => ⟨S2x896x5x512, .fp8e5m2⟩
  | .hbm, ⟨7, _⟩ => ⟨S2x896x5, .f32⟩
  | .hbm, ⟨8, _⟩ => ⟨S2x896x5x256, .f32⟩
  | .hbm, ⟨9, _⟩ => ⟨S2x5x256x512, .f32⟩
  | .hbm, ⟨10, _⟩ => ⟨S2x5x256x512, .f32⟩
  | .hbm, ⟨11, _⟩ => ⟨S5x2x14, .f32⟩
  | .hbm, ⟨12, _⟩ => ⟨S5x2x14, .f32⟩
  | .hbm, ⟨13, _⟩ => ⟨S5x2x14, .f32⟩
  | .hbm, ⟨14, _⟩ => ⟨S2x5x896x256, .fp8e4m3⟩
  | .hbm, ⟨15, _⟩ => ⟨S2x5x896x256, .fp8e4m3⟩
  | .hbm, ⟨16, _⟩ => ⟨S2x5x896x512, .fp8e4m3⟩
  | .hbm, ⟨17, _⟩ => ⟨S2x5x896x512, .fp8e5m2⟩
  | .hbm, ⟨18, _⟩ => ⟨S5x2x896, .f32⟩
  | .hbm, ⟨19, _⟩ => ⟨S2x5x896x256, .f32⟩
  | .hbm, ⟨20, _⟩ => ⟨S2x5x896x256, .bf16⟩
  | .hbm, ⟨21, _⟩ => ⟨S2x5x896x256, .bf16⟩
  | .hbm, ⟨22, _⟩ => ⟨S2x5x896x512, .bf16⟩
  | .hbm, ⟨23, _⟩ => ⟨S2x5x896x256, .f32⟩
  | .hbm, ⟨24, _⟩ => ⟨S2x5x896x256, .f32⟩
  | .hbm, ⟨25, _⟩ => ⟨S2x5x256x512, .f32⟩
  | .hbm, ⟨26, _⟩ => ⟨S2x896x5x256, .bf16⟩
  | .hbm, ⟨27, _⟩ => ⟨S2x896x5x256, .bf16⟩
  | .hbm, ⟨28, _⟩ => ⟨S2x896x5x512, .bf16⟩
  | .local _ .vmem, ⟨0, _⟩ => ⟨S1x1x896x256, .fp8e4m3⟩
  | .local _ .vmem, ⟨1, _⟩ => ⟨S1x1x896x256, .fp8e4m3⟩
  | .local _ .vmem, ⟨2, _⟩ => ⟨S1x1x896x256, .fp8e4m3⟩
  | .local _ .vmem, ⟨3, _⟩ => ⟨S1x1x896x256, .fp8e4m3⟩
  | .local _ .vmem, ⟨4, _⟩ => ⟨S1x1x896x512, .fp8e4m3⟩
  | .local _ .vmem, ⟨5, _⟩ => ⟨S1x1x896x512, .fp8e4m3⟩
  | .local _ .vmem, ⟨6, _⟩ => ⟨S1x1x896x512, .fp8e5m2⟩
  | .local _ .vmem, ⟨7, _⟩ => ⟨S1x1x896x512, .fp8e5m2⟩
  | .local _ .vmem, ⟨8, _⟩ => ⟨S5x2x896, .f32⟩
  | .local _ .vmem, ⟨9, _⟩ => ⟨S1x1x896x256, .f32⟩
  | .local _ .vmem, ⟨10, _⟩ => ⟨S1x1x896x256, .f32⟩
  | .local _ .vmem, ⟨11, _⟩ => ⟨S1x1x256x512, .f32⟩
  | .local _ .vmem, ⟨12, _⟩ => ⟨S1x1x256x512, .f32⟩
  | .local _ .vmem, ⟨13, _⟩ => ⟨S1x1x256x512, .f32⟩
  | .local _ .vmem, ⟨14, _⟩ => ⟨S1x1x256x512, .f32⟩
  | .local _ .vmem, ⟨15, _⟩ => ⟨S1x1x896x256, .bf16⟩
  | .local _ .vmem, ⟨16, _⟩ => ⟨S1x1x896x256, .bf16⟩
  | .local _ .vmem, ⟨17, _⟩ => ⟨S1x1x896x256, .bf16⟩
  | .local _ .vmem, ⟨18, _⟩ => ⟨S1x1x896x256, .bf16⟩
  | .local _ .vmem, ⟨19, _⟩ => ⟨S1x1x896x512, .bf16⟩
  | .local _ .vmem, ⟨20, _⟩ => ⟨S1x1x896x512, .bf16⟩
  | .local _ .vmem, ⟨21, _⟩ => ⟨S1x1x896x256, .f32⟩
  | .local _ .vmem, ⟨22, _⟩ => ⟨S1x1x896x256, .f32⟩
  | .local _ .vmem, ⟨23, _⟩ => ⟨S1x1x896x256, .f32⟩
  | .local _ .vmem, ⟨24, _⟩ => ⟨S1x1x896x256, .f32⟩
  | .local _ .vmem, ⟨25, _⟩ => ⟨S1x1x256x512, .f32⟩
  | .local _ .vmem, ⟨26, _⟩ => ⟨S1x1x256x512, .f32⟩
  | .local _ .vmem, ⟨27, _⟩ => ⟨S512x256, .f32⟩
  | .local _ .vmem, ⟨28, _⟩ => ⟨S896x256, .bf16⟩
  | .local _ .vmem, ⟨29, _⟩ => ⟨S896x256, .bf16⟩
  | .local _ .vmem, ⟨30, _⟩ => ⟨S896x256, .f32⟩
  | .local _ .vmem, ⟨31, _⟩ => ⟨S896x256, .f32⟩
  | .local _ .vmem, ⟨32, _⟩ => ⟨S896x256, .f32⟩
  | .local _ .vmem, ⟨33, _⟩ => ⟨S14x256, .f32⟩
  | .local _ .vmem, ⟨34, _⟩ => ⟨S14x64x64, .bf16⟩
  | .local _ .vmem, ⟨35, _⟩ => ⟨S14x64x64, .bf16⟩
  | .local _ .vmem, ⟨36, _⟩ => ⟨S896x128, .f32⟩
  | .local _ .smem, ⟨0, _⟩ => ⟨S5x2x14, .f32⟩
  | .local _ .smem, ⟨1, _⟩ => ⟨S5x2x14, .f32⟩
  | .local _ .smem, ⟨2, _⟩ => ⟨S5x2x14, .f32⟩
  | _, _ => ⟨S2x896x5x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_scratch9 : Ref sig .tc := ⟨.vmem, 36, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![2, 5], ![false, false]⟩

def k0_off1 (i : grid0.Coords) : Fin 3 → Nat :=
  let arg1 : BitVec 32 := BitVec.ofNat 32 (i 1).val
  let v14 : Index := Scalar.indexCast arg1
  let c0 : Index := 0#32
  let c0_3 : Index := 0#32
  ![v14.toNat, 0, 0]
def k0_off2 (i : grid0.Coords) : Fin 3 → Nat :=
  let arg1 : BitVec 32 := BitVec.ofNat 32 (i 1).val
  let v30 : Index := Scalar.indexCast arg1
  let c0_8 : Index := 0#32
  let c128 : Index := 128#32
  ![v30.toNat, 0, 128]
def k0_off3 (i : grid0.Coords) : Fin 3 → Nat :=
  let arg1 : BitVec 32 := BitVec.ofNat 32 (i 1).val
  let v46 : Index := Scalar.indexCast arg1
  let c0_13 : Index := 0#32
  let c256 : Index := 256#32
  ![v46.toNat, 0, 256]
def k0_off4 (i : grid0.Coords) : Fin 3 → Nat :=
  let arg1 : BitVec 32 := BitVec.ofNat 32 (i 1).val
  let v62 : Index := Scalar.indexCast arg1
  let c0_18 : Index := 0#32
  let c384 : Index := 384#32
  ![v62.toNat, 0, 384]
def k0_off5 (i : grid0.Coords) : Fin 3 → Nat :=
  let arg1 : BitVec 32 := BitVec.ofNat 32 (i 1).val
  let v78 : Index := Scalar.indexCast arg1
  let c0_23 : Index := 0#32
  let c512 : Index := 512#32
  ![v78.toNat, 0, 512]
def k0_off6 (i : grid0.Coords) : Fin 3 → Nat :=
  let arg1 : BitVec 32 := BitVec.ofNat 32 (i 1).val
  let v94 : Index := Scalar.indexCast arg1
  let c0_28 : Index := 0#32
  let c640 : Index := 640#32
  ![v94.toNat, 0, 640]
def k0_off7 (i : grid0.Coords) : Fin 3 → Nat :=
  let arg1 : BitVec 32 := BitVec.ofNat 32 (i 1).val
  let v110 : Index := Scalar.indexCast arg1
  let c0_33 : Index := 0#32
  let c768 : Index := 768#32
  ![v110.toNat, 0, 768]
def k0_off8 (i : grid0.Coords) : Fin 3 → Nat :=
  let arg1 : BitVec 32 := BitVec.ofNat 32 (i 1).val
  let v132 : Index := Scalar.indexCast arg1
  let arg0 : BitVec 32 := BitVec.ofNat 32 (i 0).val
  let v133 : Index := Scalar.indexCast arg0
  let c0_44 : Index := 0#32
  ![v132.toNat, v133.toNat, 0]
def k0_off9 (i : grid0.Coords) : Fin 3 → Nat :=
  let arg1 : BitVec 32 := BitVec.ofNat 32 (i 1).val
  let v250 : Index := Scalar.indexCast arg1
  let arg0 : BitVec 32 := BitVec.ofNat 32 (i 0).val
  let v251 : Index := Scalar.indexCast arg0
  let c1 : Index := 1#32
  ![v250.toNat, v251.toNat, 1]
def k0_off10 (i : grid0.Coords) : Fin 3 → Nat :=
  let arg1 : BitVec 32 := BitVec.ofNat 32 (i 1).val
  let v368 : Index := Scalar.indexCast arg1
  let arg0 : BitVec 32 := BitVec.ofNat 32 (i 0).val
  let v369 : Index := Scalar.indexCast arg0
  let c2 : Index := 2#32
  ![v368.toNat, v369.toNat, 2]
def k0_off11 (i : grid0.Coords) : Fin 3 → Nat :=
  let arg1 : BitVec 32 := BitVec.ofNat 32 (i 1).val
  let v486 : Index := Scalar.indexCast arg1
  let arg0 : BitVec 32 := BitVec.ofNat 32 (i 0).val
  let v487 : Index := Scalar.indexCast arg0
  let c3 : Index := 3#32
  ![v486.toNat, v487.toNat, 3]
def k0_off12 (i : grid0.Coords) : Fin 3 → Nat :=
  let arg1 : BitVec 32 := BitVec.ofNat 32 (i 1).val
  let v604 : Index := Scalar.indexCast arg1
  let arg0 : BitVec 32 := BitVec.ofNat 32 (i 0).val
  let v605 : Index := Scalar.indexCast arg0
  let c4 : Index := 4#32
  ![v604.toNat, v605.toNat, 4]
def k0_off13 (i : grid0.Coords) : Fin 3 → Nat :=
  let arg1 : BitVec 32 := BitVec.ofNat 32 (i 1).val
  let v722 : Index := Scalar.indexCast arg1
  let arg0 : BitVec 32 := BitVec.ofNat 32 (i 0).val
  let v723 : Index := Scalar.indexCast arg0
  let c5 : Index := 5#32
  ![v722.toNat, v723.toNat, 5]
def k0_off14 (i : grid0.Coords) : Fin 3 → Nat :=
  let arg1 : BitVec 32 := BitVec.ofNat 32 (i 1).val
  let v840 : Index := Scalar.indexCast arg1
  let arg0 : BitVec 32 := BitVec.ofNat 32 (i 0).val
  let v841 : Index := Scalar.indexCast arg0
  let c6 : Index := 6#32
  ![v840.toNat, v841.toNat, 6]
def k0_off15 (i : grid0.Coords) : Fin 3 → Nat :=
  let arg1 : BitVec 32 := BitVec.ofNat 32 (i 1).val
  let v958 : Index := Scalar.indexCast arg1
  let arg0 : BitVec 32 := BitVec.ofNat 32 (i 0).val
  let v959 : Index := Scalar.indexCast arg0
  let c7 : Index := 7#32
  ![v958.toNat, v959.toNat, 7]
def k0_off16 (i : grid0.Coords) : Fin 3 → Nat :=
  let arg1 : BitVec 32 := BitVec.ofNat 32 (i 1).val
  let v1076 : Index := Scalar.indexCast arg1
  let arg0 : BitVec 32 := BitVec.ofNat 32 (i 0).val
  let v1077 : Index := Scalar.indexCast arg0
  let c8 : Index := 8#32
  ![v1076.toNat, v1077.toNat, 8]
def k0_off17 (i : grid0.Coords) : Fin 3 → Nat :=
  let arg1 : BitVec 32 := BitVec.ofNat 32 (i 1).val
  let v1194 : Index := Scalar.indexCast arg1
  let arg0 : BitVec 32 := BitVec.ofNat 32 (i 0).val
  let v1195 : Index := Scalar.indexCast arg0
  let c9 : Index := 9#32
  ![v1194.toNat, v1195.toNat, 9]
def k0_off18 (i : grid0.Coords) : Fin 3 → Nat :=
  let arg1 : BitVec 32 := BitVec.ofNat 32 (i 1).val
  let v1312 : Index := Scalar.indexCast arg1
  let arg0 : BitVec 32 := BitVec.ofNat 32 (i 0).val
  let v1313 : Index := Scalar.indexCast arg0
  let c10 : Index := 10#32
  ![v1312.toNat, v1313.toNat, 10]
def k0_off19 (i : grid0.Coords) : Fin 3 → Nat :=
  let arg1 : BitVec 32 := BitVec.ofNat 32 (i 1).val
  let v1430 : Index := Scalar.indexCast arg1
  let arg0 : BitVec 32 := BitVec.ofNat 32 (i 0).val
  let v1431 : Index := Scalar.indexCast arg0
  let c11 : Index := 11#32
  ![v1430.toNat, v1431.toNat, 11]
def k0_off20 (i : grid0.Coords) : Fin 3 → Nat :=
  let arg1 : BitVec 32 := BitVec.ofNat 32 (i 1).val
  let v1548 : Index := Scalar.indexCast arg1
  let arg0 : BitVec 32 := BitVec.ofNat 32 (i 0).val
  let v1549 : Index := Scalar.indexCast arg0
  let c12 : Index := 12#32
  ![v1548.toNat, v1549.toNat, 12]
def k0_off21 (i : grid0.Coords) : Fin 3 → Nat :=
  let arg1 : BitVec 32 := BitVec.ofNat 32 (i 1).val
  let v1666 : Index := Scalar.indexCast arg1
  let arg0 : BitVec 32 := BitVec.ofNat 32 (i 0).val
  let v1667 : Index := Scalar.indexCast arg0
  let c13 : Index := 13#32
  ![v1666.toNat, v1667.toNat, 13]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S5x2x14 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S5x2x14 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S5x2x14 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x896x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x896x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x896x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x896x512 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S5x2x896 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x896x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x896x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x896x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x896x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x896x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x896x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S2x896x5x256 : Shape := ⟨4, ![2, 896, 5, 256]⟩
abbrev S2x14x5 : Shape := ⟨3, ![2, 14, 5]⟩
abbrev S2x896x5x512 : Shape := ⟨4, ![2, 896, 5, 512]⟩
abbrev S2x896x5 : Shape := ⟨3, ![2, 896, 5]⟩
abbrev S2x5x256x512 : Shape := ⟨4, ![2, 5, 256, 512]⟩
abbrev S1792x1280 : Shape := ⟨2, ![1792, 1280]⟩
abbrev S1792x2560 : Shape := ⟨2, ![1792, 2560]⟩
abbrev S14x2x5 : Shape := ⟨3, ![14, 2, 5]⟩
abbrev S14x2x5x1x1 : Shape := ⟨5, ![14, 2, 5, 1, 1]⟩
abbrev S2x14x64x5x256 : Shape := ⟨5, ![2, 14, 64, 5, 256]⟩
abbrev S14x2x5x64x256 : Shape := ⟨5, ![14, 2, 5, 64, 256]⟩
abbrev S_ : Shape := ⟨0, ![]⟩
abbrev S14x2x5x1x256 : Shape := ⟨5, ![14, 2, 5, 1, 256]⟩
abbrev S14x2x5x256 : Shape := ⟨4, ![14, 2, 5, 256]⟩
abbrev S2x14x64x5x512 : Shape := ⟨5, ![2, 14, 64, 5, 512]⟩
abbrev S14x2x5x64x512 : Shape := ⟨5, ![14, 2, 5, 64, 512]⟩
abbrev S2x14x64x5 : Shape := ⟨4, ![2, 14, 64, 5]⟩
abbrev S14x2x5x64 : Shape := ⟨4, ![14, 2, 5, 64]⟩
abbrev S14x2x5x64x1 : Shape := ⟨5, ![14, 2, 5, 64, 1]⟩
abbrev S64x64 : Shape := ⟨2, ![64, 64]⟩
abbrev S14x2x5x64x64 : Shape := ⟨5, ![14, 2, 5, 64, 64]⟩
abbrev S14x2x5x256x1 : Shape := ⟨5, ![14, 2, 5, 256, 1]⟩
abbrev S14x2x5x256x512 : Shape := ⟨5, ![14, 2, 5, 256, 512]⟩
abbrev S1x2x5x256x1 : Shape := ⟨5, ![1, 2, 5, 256, 1]⟩
abbrev S2x5x256x1 : Shape := ⟨4, ![2, 5, 256, 1]⟩
abbrev S1x2x5x256x512 : Shape := ⟨5, ![1, 2, 5, 256, 512]⟩

abbrev nBuf : Space → Nat
  | .hbm => 385
  | .vmem => 8
  | .smem => 0
  | _ => 0

abbrev hbmTy0_0 (i : Nat) : BufTy := match i % 128 with
  | 0 => ⟨S2x896x5x256, .fp8e4m3⟩
  | 1 => ⟨S2x896x5x256, .fp8e4m3⟩
  | 2 => ⟨S2x14x5, .f32⟩
  | 3 => ⟨S2x14x5, .f32⟩
  | 4 => ⟨S2x896x5x512, .fp8e4m3⟩
  | 5 => ⟨S2x14x5, .f32⟩
  | 6 => ⟨S2x896x5x512, .fp8e5m2⟩
  | 7 => ⟨S2x896x5, .f32⟩
  | 8 => ⟨S2x896x5x256, .f32⟩
  | 9 => ⟨S2x5x256x512, .f32⟩
  | 10 => ⟨S2x5x256x512, .f32⟩
  | 11 => ⟨S1792x1280, .fp8e4m3⟩
  | 12 => ⟨S1792x1280, .fp8e4m3⟩
  | 13 => ⟨S1792x2560, .fp8e4m3⟩
  | 14 => ⟨S1792x2560, .fp8e5m2⟩
  | 15 => ⟨S1792x1280, .f32⟩
  | 16 => ⟨S1792x1280, .f32⟩
  | 17 => ⟨S1792x2560, .bf16⟩
  | 18 => ⟨S1792x2560, .bf16⟩
  | 19 => ⟨S14x2x5, .f32⟩
  | 20 => ⟨S14x2x5x1x1, .f32⟩
  | 21 => ⟨S14x2x5, .f32⟩
  | 22 => ⟨S14x2x5x1x1, .f32⟩
  | 23 => ⟨S14x2x5, .f32⟩
  | 24 => ⟨S14x2x5x1x1, .f32⟩
  | 25 => ⟨S2x14x64x5x256, .f32⟩
  | 26 => ⟨S14x2x5x64x256, .f32⟩
  | 27 => ⟨S14x2x5x64x256, .f32⟩
  | 28 => ⟨S14x2x5x64x256, .f32⟩
  | 29 => ⟨S2x14x64x5x256, .f32⟩
  | 30 => ⟨S14x2x5x64x256, .f32⟩
  | 31 => ⟨S14x2x5x64x256, .f32⟩
  | 32 => ⟨S14x2x5x64x256, .f32⟩
  | 33 => ⟨S2x14x64x5x256, .f32⟩
  | 34 => ⟨S14x2x5x64x256, .f32⟩
  | 35 => ⟨S_, .f32⟩
  | 36 => ⟨S_, .f32⟩
  | 37 => ⟨S14x2x5x64x256, .f32⟩
  | 38 => ⟨S14x2x5x1x256, .f32⟩
  | 39 => ⟨S14x2x5x256, .f32⟩
  | 40 => ⟨S14x2x5x64x256, .f32⟩
  | 41 => ⟨S14x2x5x64x256, .f32⟩
  | 42 => ⟨S14x2x5x64x256, .f32⟩
  | 43 => ⟨S14x2x5x1x256, .f32⟩
  | 44 => ⟨S14x2x5x64x256, .f32⟩
  | 45 => ⟨S14x2x5x64x256, .f32⟩
  | 46 => ⟨S14x2x5x64x256, .f32⟩
  | 47 => ⟨S_, .f32⟩
  | 48 => ⟨S14x2x5x64x256, .f32⟩
  | 49 => ⟨S14x2x5x64x256, .f32⟩
  | 50 => ⟨S14x2x5x64x256, .f32⟩
  | 51 => ⟨S14x2x5x64x256, .bf16⟩
  | 52 => ⟨S14x2x5x64x256, .f32⟩
  | 53 => ⟨S14x2x5x64x256, .bf16⟩
  | 54 => ⟨S14x2x5x64x256, .f32⟩
  | 55 => ⟨S14x2x5x64x256, .bf16⟩
  | 56 => ⟨S2x14x64x5x512, .bf16⟩
  | 57 => ⟨S14x2x5x64x512, .bf16⟩
  | 58 => ⟨S2x14x64x5x512, .bf16⟩
  | 59 => ⟨S14x2x5x64x512, .bf16⟩
  | 60 => ⟨S2x14x64x5, .f32⟩
  | 61 => ⟨S14x2x5x64, .f32⟩
  | 62 => ⟨S14x2x5x64, .bf16⟩
  | 63 => ⟨S14x2x5x64x1, .bf16⟩
  | 64 => ⟨S14x2x5x64x512, .bf16⟩
  | 65 => ⟨S14x2x5x64x512, .bf16⟩
  | 66 => ⟨S_, .i1⟩
  | 67 => ⟨S64x64, .i1⟩
  | 68 => ⟨S64x64, .i32⟩
  | 69 => ⟨S_, .i32⟩
  | 70 => ⟨S64x64, .i32⟩
  | 71 => ⟨S64x64, .i32⟩
  | 72 => ⟨S64x64, .i32⟩
  | 73 => ⟨S64x64, .i1⟩
  | 74 => ⟨S_, .i1⟩
  | 75 => ⟨S64x64, .i1⟩
  | 76 => ⟨S64x64, .i1⟩
  | 77 => ⟨S14x2x5x64x64, .f32⟩
  | 78 => ⟨S14x2x5x64x1, .f32⟩
  | 79 => ⟨S14x2x5x64x1, .f32⟩
  | 80 => ⟨S14x2x5x64x1, .f32⟩
  | 81 => ⟨S14x2x5x64x64, .f32⟩
  | 82 => ⟨S14x2x5x64x64, .f32⟩
  | 83 => ⟨S_, .f32⟩
  | 84 => ⟨S_, .f32⟩
  | 85 => ⟨S14x2x5x64x64, .i1⟩
  | 86 => ⟨S14x2x5x64x64, .f32⟩
  | 87 => ⟨S14x2x5x64x64, .f32⟩
  | 88 => ⟨S14x2x5x64x64, .bf16⟩
  | 89 => ⟨S14x2x5x64x64, .f32⟩
  | 90 => ⟨S_, .f32⟩
  | 91 => ⟨S_, .f32⟩
  | 92 => ⟨S14x2x5x64x64, .i1⟩
  | 93 => ⟨S14x2x5x64x64, .f32⟩
  | 94 => ⟨S14x2x5x64x64, .f32⟩
  | 95 => ⟨S14x2x5x64x64, .bf16⟩
  | 96 => ⟨S14x2x5x256, .f32⟩
  | 97 => ⟨S14x2x5x256x1, .f32⟩
  | 98 => ⟨S14x2x5x256x512, .f32⟩
  | 99 => ⟨S14x2x5x256x512, .f32⟩
  | 100 => ⟨S14x2x5x256x512, .f32⟩
  | 101 => ⟨S2x5x256x512, .bf16⟩
  | 102 => ⟨S1x2x5x256x1, .f32⟩
  | 103 => ⟨S2x5x256x1, .f32⟩
  | 104 => ⟨S2x5x256x512, .f32⟩
  | 105 => ⟨S2x5x256x512, .f32⟩
  | 106 => ⟨S1x2x5x256x512, .f32⟩
  | 107 => ⟨S2x5x256x512, .f32⟩
  | 108 => ⟨S2x5x256x512, .f32⟩
  | 109 => ⟨S2x5x256x512, .bf16⟩
  | 110 => ⟨S1x2x5x256x1, .f32⟩
  | 111 => ⟨S2x5x256x1, .f32⟩
  | 112 => ⟨S2x5x256x512, .f32⟩
  | 113 => ⟨S2x5x256x512, .f32⟩
  | 114 => ⟨S1x2x5x256x512, .f32⟩
  | 115 => ⟨S2x5x256x512, .f32⟩
  | 116 => ⟨S2x5x256x512, .f32⟩
  | 117 => ⟨S2x5x256x512, .bf16⟩
  | 118 => ⟨S1x2x5x256x1, .f32⟩
  | 119 => ⟨S2x5x256x1, .f32⟩
  | 120 => ⟨S2x5x256x512, .f32⟩
  | 121 => ⟨S2x5x256x512, .f32⟩
  | 122 => ⟨S1x2x5x256x512, .f32⟩
  | 123 => ⟨S2x5x256x512, .f32⟩
  | 124 => ⟨S2x5x256x512, .f32⟩
  | 125 => ⟨S2x5x256x512, .bf16⟩
  | 126 => ⟨S1x2x5x256x1, .f32⟩
  | 127 => ⟨S2x5x256x1, .f32⟩
  | _ => ⟨S2x896x5x256, .fp8e4m3⟩

abbrev hbmTy0_1 (i : Nat) : BufTy := match i % 128 with
  | 0 => ⟨S2x5x256x512, .f32⟩
  | 1 => ⟨S2x5x256x512, .f32⟩
  | 2 => ⟨S1x2x5x256x512, .f32⟩
  | 3 => ⟨S2x5x256x512, .f32⟩
  | 4 => ⟨S2x5x256x512, .f32⟩
  | 5 => ⟨S2x5x256x512, .bf16⟩
  | 6 => ⟨S1x2x5x256x1, .f32⟩
  | 7 => ⟨S2x5x256x1, .f32⟩
  | 8 => ⟨S2x5x256x512, .f32⟩
  | 9 => ⟨S2x5x256x512, .f32⟩
  | 10 => ⟨S1x2x5x256x512, .f32⟩
  | 11 => ⟨S2x5x256x512, .f32⟩
  | 12 => ⟨S2x5x256x512, .f32⟩
  | 13 => ⟨S2x5x256x512, .bf16⟩
  | 14 => ⟨S1x2x5x256x1, .f32⟩
  | 15 => ⟨S2x5x256x1, .f32⟩
  | 16 => ⟨S2x5x256x512, .f32⟩
  | 17 => ⟨S2x5x256x512, .f32⟩
  | 18 => ⟨S1x2x5x256x512, .f32⟩
  | 19 => ⟨S2x5x256x512, .f32⟩
  | 20 => ⟨S2x5x256x512, .f32⟩
  | 21 => ⟨S2x5x256x512, .bf16⟩
  | 22 => ⟨S1x2x5x256x1, .f32⟩
  | 23 => ⟨S2x5x256x1, .f32⟩
  | 24 => ⟨S2x5x256x512, .f32⟩
  | 25 => ⟨S2x5x256x512, .f32⟩
  | 26 => ⟨S1x2x5x256x512, .f32⟩
  | 27 => ⟨S2x5x256x512, .f32⟩
  | 28 => ⟨S2x5x256x512, .f32⟩
  | 29 => ⟨S2x5x256x512, .bf16⟩
  | 30 => ⟨S1x2x5x256x1, .f32⟩
  | 31 => ⟨S2x5x256x1, .f32⟩
  | 32 => ⟨S2x5x256x512, .f32⟩
  | 33 => ⟨S2x5x256x512, .f32⟩
  | 34 => ⟨S1x2x5x256x512, .f32⟩
  | 35 => ⟨S2x5x256x512, .f32⟩
  | 36 => ⟨S2x5x256x512, .f32⟩
  | 37 => ⟨S2x5x256x512, .bf16⟩
  | 38 => ⟨S1x2x5x256x1, .f32⟩
  | 39 => ⟨S2x5x256x1, .f32⟩
  | 40 => ⟨S2x5x256x512, .f32⟩
  | 41 => ⟨S2x5x256x512, .f32⟩
  | 42 => ⟨S1x2x5x256x512, .f32⟩
  | 43 => ⟨S2x5x256x512, .f32⟩
  | 44 => ⟨S2x5x256x512, .f32⟩
  | 45 => ⟨S2x5x256x512, .bf16⟩
  | 46 => ⟨S1x2x5x256x1, .f32⟩
  | 47 => ⟨S2x5x256x1, .f32⟩
  | 48 => ⟨S2x5x256x512, .f32⟩
  | 49 => ⟨S2x5x256x512, .f32⟩
  | 50 => ⟨S1x2x5x256x512, .f32⟩
  | 51 => ⟨S2x5x256x512, .f32⟩
  | 52 => ⟨S2x5x256x512, .f32⟩
  | 53 => ⟨S2x5x256x512, .bf16⟩
  | 54 => ⟨S1x2x5x256x1, .f32⟩
  | 55 => ⟨S2x5x256x1, .f32⟩
  | 56 => ⟨S2x5x256x512, .f32⟩
  | 57 => ⟨S2x5x256x512, .f32⟩
  | 58 => ⟨S1x2x5x256x512, .f32⟩
  | 59 => ⟨S2x5x256x512, .f32⟩
  | 60 => ⟨S2x5x256x512, .f32⟩
  | 61 => ⟨S2x5x256x512, .bf16⟩
  | 62 => ⟨S1x2x5x256x1, .f32⟩
  | 63 => ⟨S2x5x256x1, .f32⟩
  | 64 => ⟨S2x5x256x512, .f32⟩
  | 65 => ⟨S2x5x256x512, .f32⟩
  | 66 => ⟨S1x2x5x256x512, .f32⟩
  | 67 => ⟨S2x5x256x512, .f32⟩
  | 68 => ⟨S2x5x256x512, .f32⟩
  | 69 => ⟨S2x5x256x512, .bf16⟩
  | 70 => ⟨S1x2x5x256x1, .f32⟩
  | 71 => ⟨S2x5x256x1, .f32⟩
  | 72 => ⟨S2x5x256x512, .f32⟩
  | 73 => ⟨S2x5x256x512, .f32⟩
  | 74 => ⟨S1x2x5x256x512, .f32⟩
  | 75 => ⟨S2x5x256x512, .f32⟩
  | 76 => ⟨S2x5x256x512, .f32⟩
  | 77 => ⟨S2x5x256x512, .bf16⟩
  | 78 => ⟨S1x2x5x256x1, .f32⟩
  | 79 => ⟨S2x5x256x1, .f32⟩
  | 80 => ⟨S2x5x256x512, .f32⟩
  | 81 => ⟨S2x5x256x512, .f32⟩
  | 82 => ⟨S1x2x5x256x512, .f32⟩
  | 83 => ⟨S2x5x256x512, .f32⟩
  | 84 => ⟨S2x5x256x512, .f32⟩
  | 85 => ⟨S1x2x5x256x512, .bf16⟩
  | 86 => ⟨S1x2x5x256x512, .bf16⟩
  | 87 => ⟨S1x2x5x256x512, .bf16⟩
  | 88 => ⟨S1x2x5x256x512, .bf16⟩
  | 89 => ⟨S1x2x5x256x512, .bf16⟩
  | 90 => ⟨S1x2x5x256x512, .bf16⟩
  | 91 => ⟨S1x2x5x256x512, .bf16⟩
  | 92 => ⟨S1x2x5x256x512, .bf16⟩
  | 93 => ⟨S1x2x5x256x512, .bf16⟩
  | 94 => ⟨S1x2x5x256x512, .bf16⟩
  | 95 => ⟨S1x2x5x256x512, .bf16⟩
  | 96 => ⟨S1x2x5x256x512, .bf16⟩
  | 97 => ⟨S1x2x5x256x512, .bf16⟩
  | 98 => ⟨S1x2x5x256x512, .bf16⟩
  | 99 => ⟨S14x2x5x256x512, .bf16⟩
  | 100 => ⟨S14x2x5x64x256, .f32⟩
  | 101 => ⟨S14x2x5x256x512, .f32⟩
  | 102 => ⟨S2x5x256x512, .bf16⟩
  | 103 => ⟨S1x2x5x256x1, .f32⟩
  | 104 => ⟨S2x5x256x1, .f32⟩
  | 105 => ⟨S2x5x256x512, .f32⟩
  | 106 => ⟨S2x5x256x512, .f32⟩
  | 107 => ⟨S1x2x5x256x512, .f32⟩
  | 108 => ⟨S2x5x256x512, .f32⟩
  | 109 => ⟨S2x5x256x512, .f32⟩
  | 110 => ⟨S2x5x256x512, .bf16⟩
  | 111 => ⟨S1x2x5x256x1, .f32⟩
  | 112 => ⟨S2x5x256x1, .f32⟩
  | 113 => ⟨S2x5x256x512, .f32⟩
  | 114 => ⟨S2x5x256x512, .f32⟩
  | 115 => ⟨S1x2x5x256x512, .f32⟩
  | 116 => ⟨S2x5x256x512, .f32⟩
  | 117 => ⟨S2x5x256x512, .f32⟩
  | 118 => ⟨S2x5x256x512, .bf16⟩
  | 119 => ⟨S1x2x5x256x1, .f32⟩
  | 120 => ⟨S2x5x256x1, .f32⟩
  | 121 => ⟨S2x5x256x512, .f32⟩
  | 122 => ⟨S2x5x256x512, .f32⟩
  | 123 => ⟨S1x2x5x256x512, .f32⟩
  | 124 => ⟨S2x5x256x512, .f32⟩
  | 125 => ⟨S2x5x256x512, .f32⟩
  | 126 => ⟨S2x5x256x512, .bf16⟩
  | 127 => ⟨S1x2x5x256x1, .f32⟩
  | _ => ⟨S2x896x5x256, .fp8e4m3⟩

abbrev hbmTy0_2 (i : Nat) : BufTy := match i % 128 with
  | 0 => ⟨S2x5x256x1, .f32⟩
  | 1 => ⟨S2x5x256x512, .f32⟩
  | 2 => ⟨S2x5x256x512, .f32⟩
  | 3 => ⟨S1x2x5x256x512, .f32⟩
  | 4 => ⟨S2x5x256x512, .f32⟩
  | 5 => ⟨S2x5x256x512, .f32⟩
  | 6 => ⟨S2x5x256x512, .bf16⟩
  | 7 => ⟨S1x2x5x256x1, .f32⟩
  | 8 => ⟨S2x5x256x1, .f32⟩
  | 9 => ⟨S2x5x256x512, .f32⟩
  | 10 => ⟨S2x5x256x512, .f32⟩
  | 11 => ⟨S1x2x5x256x512, .f32⟩
  | 12 => ⟨S2x5x256x512, .f32⟩
  | 13 => ⟨S2x5x256x512, .f32⟩
  | 14 => ⟨S2x5x256x512, .bf16⟩
  | 15 => ⟨S1x2x5x256x1, .f32⟩
  | 16 => ⟨S2x5x256x1, .f32⟩
  | 17 => ⟨S2x5x256x512, .f32⟩
  | 18 => ⟨S2x5x256x512, .f32⟩
  | 19 => ⟨S1x2x5x256x512, .f32⟩
  | 20 => ⟨S2x5x256x512, .f32⟩
  | 21 => ⟨S2x5x256x512, .f32⟩
  | 22 => ⟨S2x5x256x512, .bf16⟩
  | 23 => ⟨S1x2x5x256x1, .f32⟩
  | 24 => ⟨S2x5x256x1, .f32⟩
  | 25 => ⟨S2x5x256x512, .f32⟩
  | 26 => ⟨S2x5x256x512, .f32⟩
  | 27 => ⟨S1x2x5x256x512, .f32⟩
  | 28 => ⟨S2x5x256x512, .f32⟩
  | 29 => ⟨S2x5x256x512, .f32⟩
  | 30 => ⟨S2x5x256x512, .bf16⟩
  | 31 => ⟨S1x2x5x256x1, .f32⟩
  | 32 => ⟨S2x5x256x1, .f32⟩
  | 33 => ⟨S2x5x256x512, .f32⟩
  | 34 => ⟨S2x5x256x512, .f32⟩
  | 35 => ⟨S1x2x5x256x512, .f32⟩
  | 36 => ⟨S2x5x256x512, .f32⟩
  | 37 => ⟨S2x5x256x512, .f32⟩
  | 38 => ⟨S2x5x256x512, .bf16⟩
  | 39 => ⟨S1x2x5x256x1, .f32⟩
  | 40 => ⟨S2x5x256x1, .f32⟩
  | 41 => ⟨S2x5x256x512, .f32⟩
  | 42 => ⟨S2x5x256x512, .f32⟩
  | 43 => ⟨S1x2x5x256x512, .f32⟩
  | 44 => ⟨S2x5x256x512, .f32⟩
  | 45 => ⟨S2x5x256x512, .f32⟩
  | 46 => ⟨S2x5x256x512, .bf16⟩
  | 47 => ⟨S1x2x5x256x1, .f32⟩
  | 48 => ⟨S2x5x256x1, .f32⟩
  | 49 => ⟨S2x5x256x512, .f32⟩
  | 50 => ⟨S2x5x256x512, .f32⟩
  | 51 => ⟨S1x2x5x256x512, .f32⟩
  | 52 => ⟨S2x5x256x512, .f32⟩
  | 53 => ⟨S2x5x256x512, .f32⟩
  | 54 => ⟨S2x5x256x512, .bf16⟩
  | 55 => ⟨S1x2x5x256x1, .f32⟩
  | 56 => ⟨S2x5x256x1, .f32⟩
  | 57 => ⟨S2x5x256x512, .f32⟩
  | 58 => ⟨S2x5x256x512, .f32⟩
  | 59 => ⟨S1x2x5x256x512, .f32⟩
  | 60 => ⟨S2x5x256x512, .f32⟩
  | 61 => ⟨S2x5x256x512, .f32⟩
  | 62 => ⟨S2x5x256x512, .bf16⟩
  | 63 => ⟨S1x2x5x256x1, .f32⟩
  | 64 => ⟨S2x5x256x1, .f32⟩
  | 65 => ⟨S2x5x256x512, .f32⟩
  | 66 => ⟨S2x5x256x512, .f32⟩
  | 67 => ⟨S1x2x5x256x512, .f32⟩
  | 68 => ⟨S2x5x256x512, .f32⟩
  | 69 => ⟨S2x5x256x512, .f32⟩
  | 70 => ⟨S2x5x256x512, .bf16⟩
  | 71 => ⟨S1x2x5x256x1, .f32⟩
  | 72 => ⟨S2x5x256x1, .f32⟩
  | 73 => ⟨S2x5x256x512, .f32⟩
  | 74 => ⟨S2x5x256x512, .f32⟩
  | 75 => ⟨S1x2x5x256x512, .f32⟩
  | 76 => ⟨S2x5x256x512, .f32⟩
  | 77 => ⟨S2x5x256x512, .f32⟩
  | 78 => ⟨S2x5x256x512, .bf16⟩
  | 79 => ⟨S1x2x5x256x1, .f32⟩
  | 80 => ⟨S2x5x256x1, .f32⟩
  | 81 => ⟨S2x5x256x512, .f32⟩
  | 82 => ⟨S2x5x256x512, .f32⟩
  | 83 => ⟨S1x2x5x256x512, .f32⟩
  | 84 => ⟨S2x5x256x512, .f32⟩
  | 85 => ⟨S2x5x256x512, .f32⟩
  | 86 => ⟨S1x2x5x256x512, .bf16⟩
  | 87 => ⟨S1x2x5x256x512, .bf16⟩
  | 88 => ⟨S1x2x5x256x512, .bf16⟩
  | 89 => ⟨S1x2x5x256x512, .bf16⟩
  | 90 => ⟨S1x2x5x256x512, .bf16⟩
  | 91 => ⟨S1x2x5x256x512, .bf16⟩
  | 92 => ⟨S1x2x5x256x512, .bf16⟩
  | 93 => ⟨S1x2x5x256x512, .bf16⟩
  | 94 => ⟨S1x2x5x256x512, .bf16⟩
  | 95 => ⟨S1x2x5x256x512, .bf16⟩
  | 96 => ⟨S1x2x5x256x512, .bf16⟩
  | 97 => ⟨S1x2x5x256x512, .bf16⟩
  | 98 => ⟨S1x2x5x256x512, .bf16⟩
  | 99 => ⟨S1x2x5x256x512, .bf16⟩
  | 100 => ⟨S14x2x5x256x512, .bf16⟩
  | 101 => ⟨S14x2x5x64x256, .f32⟩
  | 102 => ⟨S14x2x5x64x512, .f32⟩
  | 103 => ⟨S_, .f32⟩
  | 104 => ⟨S14x2x5x64x256, .f32⟩
  | 105 => ⟨S14x2x5x64x256, .f32⟩
  | 106 => ⟨S14x2x5x64x1, .f32⟩
  | 107 => ⟨S14x2x5x64x256, .f32⟩
  | 108 => ⟨S14x2x5x64x256, .f32⟩
  | 109 => ⟨S14x2x5x64x256, .f32⟩
  | 110 => ⟨S14x2x5x64x256, .f32⟩
  | 111 => ⟨S14x2x5x64x256, .f32⟩
  | 112 => ⟨S14x2x5x64x256, .f32⟩
  | 113 => ⟨S14x2x5x64x256, .f32⟩
  | 114 => ⟨S14x2x5x64x256, .f32⟩
  | 115 => ⟨S14x2x5x64x256, .f32⟩
  | 116 => ⟨S14x2x5x64x256, .f32⟩
  | 117 => ⟨S14x2x5x64x256, .f32⟩
  | 118 => ⟨S14x2x5x64x512, .f32⟩
  | 119 => ⟨S14x2x5x64x512, .f32⟩
  | 120 => ⟨S14x2x5x64x256, .bf16⟩
  | 121 => ⟨S2x14x64x5x256, .bf16⟩
  | 122 => ⟨S2x896x5x256, .bf16⟩
  | 123 => ⟨S14x2x5x64x256, .bf16⟩
  | 124 => ⟨S2x14x64x5x256, .bf16⟩
  | 125 => ⟨S2x896x5x256, .bf16⟩
  | 126 => ⟨S14x2x5x64x512, .bf16⟩
  | 127 => ⟨S2x14x64x5x512, .bf16⟩
  | _ => ⟨S2x896x5x256, .fp8e4m3⟩

abbrev hbmTy0_3 (i : Nat) : BufTy := match i % 128 with
  | 0 => ⟨S2x896x5x512, .bf16⟩
  | _ => ⟨S2x896x5x256, .fp8e4m3⟩

abbrev hbmTy (i : Nat) : BufTy := match i / 128 with
  | 0 => hbmTy0_0 i
  | 1 => hbmTy0_1 i
  | 2 => hbmTy0_2 i
  | 3 => hbmTy0_3 i
  | _ => ⟨S2x896x5x256, .fp8e4m3⟩

abbrev bufTy : (tb : Table) → Fin (tcTables nBuf tb) → BufTy
  | .hbm, ⟨i, _⟩ => hbmTy i
  | .local _ .vmem, ⟨0, _⟩ => ⟨S1792x1280, .fp8e4m3⟩
  | .local _ .vmem, ⟨1, _⟩ => ⟨S1792x1280, .fp8e4m3⟩
  | .local _ .vmem, ⟨2, _⟩ => ⟨S1792x2560, .fp8e4m3⟩
  | .local _ .vmem, ⟨3, _⟩ => ⟨S1792x2560, .fp8e5m2⟩
  | .local _ .vmem, ⟨4, _⟩ => ⟨S1792x1280, .f32⟩
  | .local _ .vmem, ⟨5, _⟩ => ⟨S1792x1280, .f32⟩
  | .local _ .vmem, ⟨6, _⟩ => ⟨S1792x2560, .bf16⟩
  | .local _ .vmem, ⟨7, _⟩ => ⟨S1792x2560, .bf16⟩
  | _, _ => ⟨S2x896x5x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c : Ref sig .tc := ⟨.hbm, 66, rfl⟩
abbrev main_v49 : Ref sig .tc := ⟨.hbm, 67, rfl⟩
abbrev main_call1_v0 : Ref sig .tc := ⟨.hbm, 68, rfl⟩
abbrev main_call1_c : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_0 : Ref sig .tc := ⟨.hbm, 74, rfl⟩
abbrev main_call1_v5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_0 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_1 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_v305 : Ref sig .tc := ⟨.hbm, 339, rfl⟩
abbrev main_v306 : Ref sig .tc := ⟨.hbm, 340, rfl⟩
abbrev main_v307 : Ref sig .tc := ⟨.hbm, 341, rfl⟩
abbrev main_v308 : Ref sig .tc := ⟨.hbm, 342, rfl⟩
abbrev main_v309 : Ref sig .tc := ⟨.hbm, 343, rfl⟩
abbrev main_v310 : Ref sig .tc := ⟨.hbm, 344, rfl⟩
abbrev main_v311 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_v324 : Ref sig .tc := ⟨.hbm, 358, rfl⟩
abbrev main_cst_2 : Ref sig .tc := ⟨.hbm, 359, rfl⟩
abbrev main_v325 : Ref sig .tc := ⟨.hbm, 360, rfl⟩
abbrev main_v326 : Ref sig .tc := ⟨.hbm, 361, rfl⟩
abbrev main_v327 : Ref sig .tc := ⟨.hbm, 362, rfl⟩
abbrev main_v328 : Ref sig .tc := ⟨.hbm, 363, rfl⟩
abbrev main_v329 : Ref sig .tc := ⟨.hbm, 364, rfl⟩
abbrev main_v330 : Ref sig .tc := ⟨.hbm, 365, rfl⟩
abbrev main_v331 : Ref sig .tc := ⟨.hbm, 366, rfl⟩
abbrev main_v332 : Ref sig .tc := ⟨.hbm, 367, rfl⟩
abbrev main_v333 : Ref sig .tc := ⟨.hbm, 368, rfl⟩
abbrev main_v334 : Ref sig .tc := ⟨.hbm, 369, rfl⟩
abbrev main_v335 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_v339 : Ref sig .tc := ⟨.hbm, 374, rfl⟩
abbrev main_v340 : Ref sig .tc := ⟨.hbm, 375, rfl⟩
abbrev main_v341 : Ref sig .tc := ⟨.hbm, 376, rfl⟩
abbrev main_v342 : Ref sig .tc := ⟨.hbm, 377, rfl⟩
abbrev main_v343 : Ref sig .tc := ⟨.hbm, 378, rfl⟩
abbrev main_v344 : Ref sig .tc := ⟨.hbm, 379, rfl⟩
abbrev main_v345 : Ref sig .tc := ⟨.hbm, 380, rfl⟩
abbrev main_v346 : Ref sig .tc := ⟨.hbm, 381, rfl⟩
abbrev main_v347 : Ref sig .tc := ⟨.hbm, 382, rfl⟩
abbrev main_v348 : Ref sig .tc := ⟨.hbm, 383, rfl⟩
abbrev main_v349 : Ref sig .tc := ⟨.hbm, 384, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1792x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x2560 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1792x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Gates.lean ====
/-
  What the precondition says of the arguments: no log gate is plus infinity, and the scales of the values are finite
  and not negative.
-/
module

public import proofs.«01_k».proof.Pre_gates_and_scales
public import Idealize.ShloMosaic.Lib.ReduceAll
public import Idealize.ShloMosaic.Lib.KernelVsHost
public import Idealize.ShloMosaic.Lib.Decide

@[expose] public section

noncomputable section

namespace Cert.Gates

open Idealize.ShloMosaic Cert.Pre_gates_and_scales

/-- The side conditions of the precondition's operations. -/
instance facts : Cert.Pre_gates_and_scales.Facts where
  bcast_S_S2x896x5x256 := by decide
  reducesTo_S2x896x5x256_S_d0_1_2_3 := by decide
  h_S_ := by decide
  bcast_S_S2x14x5 := by decide
  reducesTo_S2x14x5_S_d0_1_2 := by decide

theorem inf_bits : (Scalar.ofBits .f32 0x7F800000#32 : Ideal .f32) = (⊤ : EReal) := by
  show Ideal.ofBits .f32 0x7F800000#32 = ⊤
  simp [Ideal.ofBits, Ideal.ieee]

theorem andi_one (a b : BitVec 1) (h : IntOp.andi a b = 1#1) : a = 1#1 ∧ b = 1#1 := by
  revert a b; decide

theorem lt_inf (x : Ideal .f32) (h : FloatOps.cmpf .olt x (Scalar.ofBits .f32 0x7F800000#32 : Ideal .f32) = 1#1) :
    (x : EReal) ≠ ⊤ := by
  have h' : Ideal.cmp .olt (x : EReal) (Scalar.ofBits .f32 0x7F800000#32 : Ideal .f32) = 1#1 := h
  rw [inf_bits] at h'
  unfold Ideal.cmp at h'
  intro e; rw [e] at h'; simp at h'

theorem ge_zero (x : Ideal .f32) (h : FloatOps.cmpf .oge x (Scalar.ofBits .f32 0x00000000#32 : Ideal .f32) = 1#1) :
    (0 : EReal) ≤ x := by
  have h' : Ideal.cmp .oge (x : EReal) (Ideal.ofBits .f32 0x00000000#32) = 1#1 := h
  rw [Ideal.ofBits_zero_f32] at h'
  unfold Ideal.cmp at h'
  by_contra hn
  simp [hn] at h'

variable {a0 a1 : FVec Ideal S2x896x5x256 .fp8e4m3} {a2 a3 : FVec Ideal S2x14x5 .f32} {a4 : FVec Ideal S2x896x5x512 .fp8e4m3}
  {a5 : FVec Ideal S2x14x5 .f32} {a6 : FVec Ideal S2x896x5x512 .fp8e5m2} {a7 : FVec Ideal S2x896x5 .f32}
  {a8 : FVec Ideal S2x896x5x256 .f32} {a9 a10 : FVec Ideal S2x5x256x512 .f32}

instance : Subsingleton S_.Idx := ⟨fun x y => funext fun a => a.elim0⟩

theorem of_fn (h : fn (F := Ideal) a0 a1 a2 a3 a4 a5 a6 a7 a8 a9 a10 = fun _ => 1#1) :
    (∀ j, (a8 j : EReal) ≠ ⊤) ∧ ∀ j, (0 : EReal) ≤ a5 j ∧ (a5 j : EReal) ≠ ⊤ := by
  have h0 := congrFun h (fun a => a.elim0)
  dsimp only [fn] at h0
  obtain ⟨h1, h2⟩ := andi_one _ _ h0
  refine ⟨fun j => lt_inf _ (Host.reduce_andi_all _ _ _ _ _ h1 j), fun j => ?_⟩
  obtain ⟨h3, h4⟩ := andi_one _ _ (Host.reduce_andi_all _ _ _ _ _ h2 j)
  exact ⟨ge_zero _ h3, lt_inf _ h4⟩

end Cert.Gates
-- ==== Proof.Chunk.lean ====
/-
  The kernel's body as a recursion over the 14 chunks of a head, at any float instance.

  `Loads` is what the body loads of its inputs at one grid point, `Bufs` its scratch buffers. The
  definitions name what the forward sweep over the chunks and the backward sweep after it compute and
  store, each by the printed operations of one chunk; the other chunks print the same operations, cut into
  named pieces elsewhere.
-/
module

public import proofs.«01_k».proof.Proof.Gen.KernelIdeal.Skeleton
public import Idealize.ShloMosaic.Lib.Pipeline.FrameBody

@[expose] public section

noncomputable section

namespace Cert.KernelIdeal.Chunk

open Idealize.ShloMosaic Idealize.ShloMosaic.TcCoe Cert.KernelIdeal Cert.KernelIdeal.Gen

variable {F : FTy → Type} [FloatOps F]

/-- What the body loads at one grid point: scales, codes and gates by chunk, the token scales by tile of 128. -/
structure Loads (F : FTy → Type) [FloatOps F] where
  pid : BitVec 32
  qs : Fin 14 → Elt F .f32
  ks : Fin 14 → Elt F .f32
  vs : Fin 14 → Elt F .f32
  q : Fin 14 → Vec F S1x1x64x256 .fp8e4m3
  k : Fin 14 → Vec F S1x1x64x256 .fp8e4m3
  v : Fin 14 → Vec F S1x1x64x512 .fp8e4m3
  o : Fin 14 → Vec F S1x1x64x512 .fp8e5m2
  ds : Fin 7 → Vec F S1x2x128 .f32
  g : Fin 14 → Vec F S1x1x64x256 .f32
  h0 : Vec F S1x1x256x512 .f32
  hf : Vec F S1x1x256x512 .f32

/-- The scratch buffers. -/
structure Bufs where
  s : Memref sig .tc .vmem S512x256 .f32
  qg : Memref sig .tc .vmem S896x256 .bf16
  kd : Memref sig .tc .vmem S896x256 .bf16
  enb : Memref sig .tc .vmem S896x256 .f32
  egbv : Memref sig .tc .vmem S896x256 .f32
  qdq : Memref sig .tc .vmem S896x256 .f32
  dec : Memref sig .tc .vmem S14x256 .f32
  a : Memref sig .tc .vmem S14x64x64 .bf16
  p : Memref sig .tc .vmem S14x64x64 .bf16
  dosb : Memref sig .tc .vmem S896x128 .f32

/-! ### The rectangles of a chunk -/

theorem inb896x256 (n : Fin 14) : ∀ a, (![64 * n.val, 0] : Fin 2 → Nat) a + S64x256.size a ≤ S896x256.size a := by
  revert n; decide +kernel
theorem inb896x128 (n : Fin 14) : ∀ a, (![64 * n.val, 0] : Fin 2 → Nat) a + S64x128.size a ≤ S896x128.size a := by
  revert n; decide +kernel
theorem inb896x128t (n : Fin 7) : ∀ a, (![128 * n.val, 0] : Fin 2 → Nat) a + S128x128.size a ≤ S896x128.size a := by
  revert n; decide +kernel
theorem inb14x256 (n : Fin 14) : ∀ a, (![n.val, 0] : Fin 2 → Nat) a + S1x256.size a ≤ S14x256.size a := by
  revert n; decide +kernel
theorem inb14x64x64 (n : Fin 14) : ∀ a, (![n.val, 0, 0] : Fin 3 → Nat) a + S1x64x64.size a ≤ S14x64x64.size a := by
  revert n; decide +kernel
theorem inb1x1x896x256 (n : Fin 14) :
    ∀ a, (![0, 0, 64 * n.val, 0] : Fin 4 → Nat) a + S1x1x64x256.size a ≤ S1x1x896x256.size a := by
  revert n; decide +kernel
theorem inb1x1x896x512 (n : Fin 14) :
    ∀ a, (![0, 0, 64 * n.val, 0] : Fin 4 → Nat) a + S1x1x64x512.size a ≤ S1x1x896x512.size a := by
  revert n; decide +kernel

/-- The rows of chunk `n` in a scratch buffer of all tokens. -/
abbrev rows (n : Fin 14) : Rect S896x256 := Rect.unit ![64 * n.val, 0] S64x256.size (inb896x256 n)
abbrev rowsD (n : Fin 14) : Rect S896x128 := Rect.unit ![64 * n.val, 0] S64x128.size (inb896x128 n)
abbrev tileD (n : Fin 7) : Rect S896x128 := Rect.unit ![128 * n.val, 0] S128x128.size (inb896x128t n)
abbrev rowG (n : Fin 14) : Rect S14x256 := Rect.unit ![n.val, 0] S1x256.size (inb14x256 n)
abbrev pageA (n : Fin 14) : Rect S14x64x64 := Rect.unit ![n.val, 0, 0] S1x64x64.size (inb14x64x64 n)
/-- The rows of chunk `n` in a block of all tokens. -/
abbrev blk256 (n : Fin 14) : Rect S1x1x896x256 := Rect.unit ![0, 0, 64 * n.val, 0] S1x1x64x256.size (inb1x1x896x256 n)
abbrev blk512 (n : Fin 14) : Rect S1x1x896x512 := Rect.unit ![0, 0, 64 * n.val, 0] S1x1x64x512.size (inb1x1x896x512 n)
abbrev wholeS : Rect S512x256 := Rect.unit ![0, 0] S512x256.size inb_S512x256_S512x256_0_0

/-! ### The forward sweep -/

section
variable (L : Loads F) (M : Bufs)

/-- The token scales spread over 128 lanes, by tile of 128 tokens. -/
def dosbList : List (View.Piece (Elt F) S896x128 .f32) :=
  List.ofFn fun t : Fin 7 => ⟨tileD (Fin.rev t), k0_pay13 L.pid (L.ds (Fin.rev t))⟩

def dosb (n : Fin 14) : Vec F S64x128 .f32 := M.dosb.view.readCov (dosbList L) (rowsD n).toLoadRect

def seb (n : Fin 14) : FVec F S64x256 .f32 := k0_pay18 k0_pay3 (L.g n)
def enb (n : Fin 14) : FVec F S64x256 .f32 := k0_pay19 k0_pay3 (L.g n)
def egb (n : Fin 14) : FVec F S64x256 .f32 := k0_pay20 k0_pay3 (L.g n)
def dec (n : Fin 14) : FVec F S1x256 .f32 := k0_pay21 k0_pay3 (L.g n)
def qg (n : Fin 14) : FVec F S64x256 .bf16 := k0_pay25 (L.qs n) (seb L n) (L.q n)
def kg (n : Fin 14) : FVec F S64x256 .bf16 := k0_pay26 (L.ks n) (enb L n) (L.k n)
def kds (n : Fin 14) : FVec F S64x256 .bf16 := k0_pay27 (L.ks n) (L.vs n) (egb L n) (L.k n)
def vb (n : Fin 14) : FVec F S64x512 .bf16 := k0_pay33 (L.v n)
def att (n : Fin 14) : FVec F S64x64 .bf16 := k0_pay34 k0_pay2 (L.vs n) (dosb L M n) (L.o n) (L.v n)

/-- The state (transposed) before chunk `n`. -/
def st (n : ℕ) : FVec F S512x256 .f32 :=
  n.rec (k0_pay15 L.h0) fun n s =>
    k0_pay39 (kds L (Fin.ofNat 14 n)) (vb L (Fin.ofNat 14 n)) (k0_pay38 (dec L (Fin.ofNat 14 n)) s)

theorem st_zero : st L 0 = k0_pay15 L.h0 := rfl
theorem st_succ (n : ℕ) : st L (n + 1) = k0_pay39 (kds L (Fin.ofNat 14 n)) (vb L (Fin.ofNat 14 n))
    (k0_pay38 (dec L (Fin.ofNat 14 n)) (st L n)) := rfl

def dqI (n : Fin 14) : FVec F S64x256 .f32 := k0_pay37 (L.o n) (st L n.val)

def qgList : List (View.Piece (Elt F) S896x256 .bf16) :=
  List.ofFn fun k : Fin 14 => ⟨rows (Fin.rev k), k0_pay28 (L.qs (Fin.rev k)) (seb L (Fin.rev k)) (L.q (Fin.rev k))⟩
def kdList : List (View.Piece (Elt F) S896x256 .bf16) :=
  List.ofFn fun k : Fin 14 => ⟨rows (Fin.rev k), k0_pay29 (L.ks (Fin.rev k)) (egb L (Fin.rev k)) (L.k (Fin.rev k))⟩
def enbList : List (View.Piece (Elt F) S896x256 .f32) :=
  List.ofFn fun k : Fin 14 => ⟨rows (Fin.rev k), k0_pay30 (enb L (Fin.rev k))⟩
def egbvList : List (View.Piece (Elt F) S896x256 .f32) :=
  List.ofFn fun k : Fin 14 => ⟨rows (Fin.rev k), k0_pay31 (L.vs (Fin.rev k)) (egb L (Fin.rev k))⟩
def decList : List (View.Piece (Elt F) S14x256 .f32) :=
  List.ofFn fun k : Fin 14 => ⟨rowG (Fin.rev k), k0_pay32 (dec L (Fin.rev k))⟩
def aList : List (View.Piece (Elt F) S14x64x64 .bf16) :=
  List.ofFn fun k : Fin 14 => ⟨pageA (Fin.rev k), k0_pay35 k0_pay2 (L.vs (Fin.rev k)) (dosb L M (Fin.rev k))
    (L.o (Fin.rev k)) (L.v (Fin.rev k))⟩
def pList : List (View.Piece (Elt F) S14x64x64 .bf16) :=
  List.ofFn fun k : Fin 14 => ⟨pageA (Fin.rev k), k0_pay36 k0_pay2 (qg L (Fin.rev k)) (kg L (Fin.rev k))⟩
/-- The stores of `dq`. -/
def dqList : List (View.Piece (Elt F) S1x1x896x256 .bf16) :=
  List.ofFn fun k : Fin 14 => ⟨blk256 (Fin.rev k), k0_pay41 (seb L (Fin.rev k)) (kg L (Fin.rev k))
    (dosb L M (Fin.rev k)) (att L M (Fin.rev k)) (dqI L (Fin.rev k))⟩

/-! ### The backward sweep: its step `m` is chunk `13 - m` -/

def qgR (n : Fin 14) : Vec F S64x256 .bf16 := M.qg.view.readCov (qgList L) (rows n).toLoadRect
def kdR (n : Fin 14) : Vec F S64x256 .bf16 := M.kd.view.readCov (kdList L) (rows n).toLoadRect
def enbR (n : Fin 14) : Vec F S64x256 .f32 := M.enb.view.readCov (enbList L) (rows n).toLoadRect
def egbvR (n : Fin 14) : Vec F S64x256 .f32 := M.egbv.view.readCov (egbvList L) (rows n).toLoadRect
def decR (n : Fin 14) : Vec F S1x256 .f32 := M.dec.view.readCov (decList L) (rowG n).toLoadRect
def aR (n : Fin 14) : Vec F S1x64x64 .bf16 := M.a.view.readCov (aList L M) (pageA n).toLoadRect
def pR (n : Fin 14) : Vec F S1x64x64 .bf16 := M.p.view.readCov (pList L) (pageA n).toLoadRect

def dod (n : Fin 14) : FVec F S64x512 .bf16 := k0_pay421 (dosb L M n) (L.o n)

/-- The chunk of step `m`. -/
abbrev bk (m : ℕ) : Fin 14 := Fin.ofNat 14 (13 - m)

/-- The gradient of the state (transposed) when it has gone back `m` chunks. -/
def tt (m : ℕ) : FVec F S512x256 .f32 :=
  m.rec (k0_pay418 L.hf) fun m t => k0_pay423 (dod L M (bk m)) (qgR L M (bk m)) t (decR L M (bk m))

theorem tt_zero : tt L M 0 = k0_pay418 L.hf := rfl
theorem tt_succ (m : ℕ) : tt L M (m + 1) =
    k0_pay423 (dod L M (bk m)) (qgR L M (bk m)) (tt L M m) (decR L M (bk m)) := rfl

def dk (m : ℕ) : FVec F S64x256 .f32 :=
  k0_pay425 (vb L (bk m)) (qgR L M (bk m)) (aR L M (bk m)) (tt L M m) (egbvR L M (bk m)) (enbR L M (bk m))

/-- The stores of `dk` and `dv`: the chunk stored last is chunk 0, of step 13. -/
def dkList : List (View.Piece (Elt F) S1x1x896x256 .bf16) :=
  List.ofFn fun k : Fin 14 => ⟨blk256 k, k0_pay427 (truncf .bf16 (dk L M (13 - k.val)) bitsLt_bf16_f32)⟩
def dvList : List (View.Piece (Elt F) S1x1x896x512 .bf16) :=
  List.ofFn fun k : Fin 14 => ⟨blk512 k, k0_pay424 (dod L M k) (kdR L M k) (pR L M k) (tt L M (13 - k.val))⟩
/-- The store of `dh0`. -/
def dh0List : List (View.Piece (Elt F) S1x1x256x512 .f32) :=
  [⟨Rect.unit ![0, 0, 0, 0] S1x1x256x512.size inb_S1x1x256x512_S1x1x256x512_0_0_0_0, k0_pay1 (k0_pay629 (tt L M 14))⟩]

end

/-! ### The loads of the body -/

/-- The place of the scale of chunk `n`, as the kernel computes it. -/
def offS (i : grid0.Coords) (n : ℕ) : Fin 3 → Nat :=
  ![(Scalar.indexCast (BitVec.ofNat 32 (i 1).val)).toNat, (Scalar.indexCast (BitVec.ofNat 32 (i 0).val)).toNat, n]
theorem offS_inb : ∀ i : grid0.Coords, ∀ n : Fin 14, ∀ a, offS i n.val a + S1x1x1.size a ≤ S5x2x14.size a := by
  decide +kernel
/-- The place of the token scales of tile `t`, as the kernel computes it. -/
def offD (i : grid0.Coords) (t : ℕ) : Fin 3 → Nat :=
  ![(Scalar.indexCast (BitVec.ofNat 32 (i 1).val)).toNat, 0, t]
theorem offD_inb : ∀ i : grid0.Coords, ∀ t : Fin 7, ∀ a,
    offD i (128 * t.val) a + S1x2x128.size a ≤ S5x2x896.size a := by
  decide +kernel

theorem one_pos' : 0 < S1x1x1.numel := by decide
abbrev boxS (i : grid0.Coords) (n : Fin 14) : Rect S5x2x14 := Rect.unit (offS i n.val) S1x1x1.size (offS_inb i n)
abbrev boxD (i : grid0.Coords) (t : Fin 7) : Rect S5x2x896 :=
  Rect.unit (offD i (128 * t.val)) S1x2x128.size (offD_inb i t)

section
variable (i : grid0.Coords)
  (arg2 : Memref sig .tc .smem S5x2x14 .f32) (harg2 : arg2.IsWhole)
  (arg3 : Memref sig .tc .smem S5x2x14 .f32) (harg3 : arg3.IsWhole)
  (arg4 : Memref sig .tc .smem S5x2x14 .f32) (harg4 : arg4.IsWhole)
  (arg5 : Memref sig .tc .vmem S1x1x896x256 .fp8e4m3) (harg5 : arg5.IsWhole)
  (arg6 : Memref sig .tc .vmem S1x1x896x256 .fp8e4m3) (harg6 : arg6.IsWhole)
  (arg7 : Memref sig .tc .vmem S1x1x896x512 .fp8e4m3) (harg7 : arg7.IsWhole)
  (arg8 : Memref sig .tc .vmem S1x1x896x512 .fp8e5m2) (harg8 : arg8.IsWhole)
  (arg9 : Memref sig .tc .vmem S5x2x896 .f32) (harg9 : arg9.IsWhole)
  (arg10 : Memref sig .tc .vmem S1x1x896x256 .f32) (harg10 : arg10.IsWhole)
  (arg11 : Memref sig .tc .vmem S1x1x256x512 .f32) (harg11 : arg11.IsWhole)
  (arg12 : Memref sig .tc .vmem S1x1x256x512 .f32) (harg12 : arg12.IsWhole)
  (x0 x1 x2 : Vec F S5x2x14 .f32) (x3 x4 : Vec F S1x1x896x256 .fp8e4m3) (x5 : Vec F S1x1x896x512 .fp8e4m3)
  (x6 : Vec F S1x1x896x512 .fp8e5m2) (x7 : Vec F S5x2x896 .f32) (x8 : Vec F S1x1x896x256 .f32)
  (x9 x10 : Vec F S1x1x256x512 .f32)

/-- The loads, from the contents of the input windows. -/
def loads : Loads F where
  pid := BitVec.ofNat 32 (i 0).val
  qs n := arg2.view.readAt (Elt F) (boxS i n).toLoadRect (harg2.unread x0)
    (Shape.Idx.first one_pos')
  ks n := arg3.view.readAt (Elt F) (boxS i n).toLoadRect (harg3.unread x1)
    (Shape.Idx.first one_pos')
  vs n := arg4.view.readAt (Elt F) (boxS i n).toLoadRect (harg4.unread x2)
    (Shape.Idx.first one_pos')
  q n := arg5.view.readAt (Elt F) (blk256 n).toLoadRect (harg5.unread x3)
  k n := arg6.view.readAt (Elt F) (blk256 n).toLoadRect (harg6.unread x4)
  v n := arg7.view.readAt (Elt F) (blk512 n).toLoadRect (harg7.unread x5)
  o n := arg8.view.readAt (Elt F) (blk512 n).toLoadRect (harg8.unread x6)
  ds t := arg9.view.readAt (Elt F) (boxD i t).toLoadRect (harg9.unread x7)
  g n := arg10.view.readAt (Elt F) (blk256 n).toLoadRect (harg10.unread x8)
  h0 := arg11.view.readAt (Elt F) (Rect.unit ![0, 0, 0, 0] S1x1x256x512.size
    inb_S1x1x256x512_S1x1x256x512_0_0_0_0).toLoadRect (harg11.unread x9)
  hf := arg12.view.readAt (Elt F) (Rect.unit ![0, 0, 0, 0] S1x1x256x512.size
    inb_S1x1x256x512_S1x1x256x512_0_0_0_0).toLoadRect (harg12.unread x10)
end

end Cert.KernelIdeal.Chunk
-- ==== Proof.Gla.lean ====
/-
  The mathematics of the chunked backward pass of gated linear attention, for one batch entry and one
  head: 14 chunks of 64 tokens, 256 key channels, 512 value channels, over the extended reals.

  `Head` holds the inputs of that head, and the definitions below follow the formulas of the reference,
  one definition per intermediate value. The theorems at the end are the places where the kernel
  computes the same number in another way.
-/
module

public import Idealize.ShloMosaic.PureOps.Ideal
public import Mathlib.Data.EReal.Operations
public import Mathlib.Data.EReal.Inv

@[expose] public section

noncomputable section

namespace Cert.Gla

open Idealize.ShloMosaic

/-- The inputs of one head, cut into chunks: `q`, `k`, `v`, `o` are the numbers of the codes (`o` those of
    the incoming gradient), `qs`, `ks`, `vs` the scales of a chunk, `os` those of a token, `g` the log gates,
    `h0` the first state, `hf` the gradient of the last, `sc` the scale of the attention. -/
structure Head where
  q : Fin 14 → Fin 64 → Fin 256 → EReal
  k : Fin 14 → Fin 64 → Fin 256 → EReal
  g : Fin 14 → Fin 64 → Fin 256 → EReal
  v : Fin 14 → Fin 64 → Fin 512 → EReal
  o : Fin 14 → Fin 64 → Fin 512 → EReal
  qs : Fin 14 → EReal
  ks : Fin 14 → EReal
  vs : Fin 14 → EReal
  os : Fin 14 → Fin 64 → EReal
  h0 : Fin 256 → Fin 512 → EReal
  hf : Fin 256 → Fin 512 → EReal
  sc : EReal

namespace Head

variable (H : Head)

/-- The scaled queries. -/
def qr (n : Fin 14) (i : Fin 64) (d : Fin 256) : EReal := H.q n i d * H.qs n

/-- The scaled keys. -/
def kr (n : Fin 14) (i : Fin 64) (d : Fin 256) : EReal := H.k n i d * H.ks n

/-- The log gates summed from the head of the chunk. -/
def B (n : Fin 14) (i : Fin 64) (d : Fin 256) : EReal := ∑ j : Fin 64, if j ≤ i then H.g n j d else 0

/-- The log gates summed over the whole chunk. -/
def G (n : Fin 14) (d : Fin 256) : EReal := H.B n 63 d

def eB (n : Fin 14) (i : Fin 64) (d : Fin 256) : EReal := Ideal.exp (H.B n i d)

def enB (n : Fin 14) (i : Fin 64) (d : Fin 256) : EReal := Ideal.exp (-H.B n i d)

def eGB (n : Fin 14) (i : Fin 64) (d : Fin 256) : EReal := Ideal.exp (H.G n d - H.B n i d)

/-- The decay of the state over a chunk. -/
def dec (n : Fin 14) (d : Fin 256) : EReal := Ideal.exp (H.G n d)

def qg (n : Fin 14) (i : Fin 64) (d : Fin 256) : EReal := H.sc * H.qr n i d * H.eB n i d

def kg (n : Fin 14) (i : Fin 64) (d : Fin 256) : EReal := H.kr n i d * H.enB n i d

def kd (n : Fin 14) (i : Fin 64) (d : Fin 256) : EReal := H.kr n i d * H.eGB n i d

/-- The incoming gradient with its scale. -/
def od (n : Fin 14) (i : Fin 64) (v : Fin 512) : EReal := H.o n i v * H.os n i

/-- The gradient of the attention weights inside a chunk. -/
def A (n : Fin 14) (i j : Fin 64) : EReal :=
  if j ≤ i then (∑ v : Fin 512, H.o n i v * H.v n j v) * (H.os n i * H.vs n) else 0

/-- The attention weights inside a chunk. -/
def P (n : Fin 14) (i j : Fin 64) : EReal :=
  if j ≤ i then ∑ d : Fin 256, H.qg n i d * H.kg n j d else 0

/-- What a chunk adds to the state. -/
def U (n : Fin 14) (d : Fin 256) (v : Fin 512) : EReal := (∑ j : Fin 64, H.kd n j d * H.v n j v) * H.vs n

/-- The state before chunk `n`. -/
def S : ℕ → Fin 256 → Fin 512 → EReal
  | 0 => H.h0
  | n + 1 => fun d v => H.dec (Fin.ofNat 14 n) d * S n d v + H.U (Fin.ofNat 14 n) d v

/-- What a chunk adds to the gradient of the state. -/
def W (n : Fin 14) (d : Fin 256) (v : Fin 512) : EReal := ∑ i : Fin 64, H.qg n i d * H.od n i v

/-- The gradient of the state after the last `m` chunks have been gone through. -/
def T : ℕ → Fin 256 → Fin 512 → EReal
  | 0 => H.hf
  | m + 1 => fun d v => H.dec (Fin.ofNat 14 (13 - m)) d * T m d v + H.W (Fin.ofNat 14 (13 - m)) d v

/-- The gradient of the state behind chunk `n`. -/
def dS (n : Fin 14) (d : Fin 256) (v : Fin 512) : EReal := H.T (13 - n.val) d v

def dqI (n : Fin 14) (i : Fin 64) (d : Fin 256) : EReal := ∑ v : Fin 512, H.o n i v * H.S n.val d v

def dq (n : Fin 14) (i : Fin 64) (d : Fin 256) : EReal :=
  H.sc * H.eB n i d * (H.os n i * H.dqI n i d + ∑ j : Fin 64, H.A n i j * H.kg n j d)

def dkI (n : Fin 14) (j : Fin 64) (d : Fin 256) : EReal := ∑ v : Fin 512, H.v n j v * H.dS n d v

def dk (n : Fin 14) (j : Fin 64) (d : Fin 256) : EReal :=
  H.eGB n j d * (H.vs n * H.dkI n j d) + H.enB n j d * ∑ i : Fin 64, H.A n i j * H.qg n i d

def dv (n : Fin 14) (j : Fin 64) (v : Fin 512) : EReal :=
  (∑ d : Fin 256, H.kd n j d * H.dS n d v) + ∑ i : Fin 64, H.P n i j * H.od n i v

/-- `⊤` becomes the undefined sum `⊤ + ⊥`, which is `⊥`; every other number is kept. -/
def fin (x : EReal) : EReal := if x = ⊤ ∨ x = ⊥ then ⊥ else x

/-! ### The kernel's own ways to the same numbers -/

/-- The kernel puts the attention scale into the exponential. -/
theorem qg_eq (n : Fin 14) (i : Fin 64) (d : Fin 256) :
    H.qr n i d * (H.eB n i d * H.sc) = H.qg n i d := by
  unfold qg; ac_rfl

/-- `dq` with the scale put into the exponential. -/
theorem dq_eq (n : Fin 14) (i : Fin 64) (d : Fin 256) :
    H.eB n i d * H.sc * (H.os n i * H.dqI n i d + ∑ j : Fin 64, H.A n i j * H.kg n j d) = H.dq n i d := by
  unfold dq; rw [mul_comm (H.eB n i d)]

/-- `dk` with the value scale put into the decay. -/
theorem dk_eq (n : Fin 14) (j : Fin 64) (d : Fin 256) :
    H.eGB n j d * H.vs n * H.dkI n j d + H.enB n j d * (∑ i : Fin 64, H.A n i j * H.qg n i d) = H.dk n j d := by
  unfold dk; rw [mul_assoc]

/-- A finite nonnegative factor goes into a finite sum of extended reals. -/
theorem sum_mul_nonneg {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, ← ih,
      EReal.right_distrib_of_nonneg_of_ne_top h0 ht]

/-- What a chunk adds to the state, with the value scale put into the keys. -/
theorem U_eq (n : Fin 14) (d : Fin 256) (v : Fin 512) (h0 : 0 ≤ H.vs n) (ht : H.vs n ≠ ⊤) :
    ∑ j : Fin 64, H.v n j v * (H.kr n j d * (H.eGB n j d * H.vs n)) = H.U n d v := by
  unfold U
  rw [sum_mul_nonneg _ _ _ h0 ht]
  refine Finset.sum_congr rfl fun j _ => ?_
  unfold kd; ac_rfl

/-- The three parts that the kernel splits a number into. Over the extended reals the first holds all of it,
    and the other two are zero if it is finite. -/
theorem split3_fin (x : EReal) : x + (x - x) + ((x - x) - (x - x)) = fin x := by
  unfold fin
  induction x with
  | bot => simp
  | top => simp
  | coe a =>
    rw [if_neg (by simp)]
    norm_cast
    simp

theorem fin_of_ne {x : EReal} (ht : x ≠ ⊤) : fin x = x := by
  unfold fin
  split
  · next h => exact (h.resolve_left ht).symm
  · rfl

/-- A sum over the three stacked parts, each weighted by the same 0 or 1. -/
theorem split3_sum (p : Fin 64 → Prop) [DecidablePred p] (f : Fin 64 → EReal) :
    (∑ j : Fin 64, (if p j then (1 : EReal) else 0) * f j)
      + (∑ j : Fin 64, (if p j then (1 : EReal) else 0) * (f j - f j))
      + (∑ j : Fin 64, (if p j then (1 : EReal) else 0) * ((f j - f j) - (f j - f j)))
      = ∑ j : Fin 64, if p j then fin (f j) else 0 := by
  rw [← Finset.sum_add_distrib, ← Finset.sum_add_distrib]
  refine Finset.sum_congr rfl fun j _ => ?_
  by_cases h : p j
  · simp only [if_pos h, one_mul]; exact split3_fin _
  · simp only [if_neg h, zero_mul, add_zero]

theorem S_zero : H.S 0 = H.h0 := rfl
theorem S_succ (n : ℕ) (d : Fin 256) (v : Fin 512) :
    H.S (n + 1) d v = H.dec (Fin.ofNat 14 n) d * H.S n d v + H.U (Fin.ofNat 14 n) d v := rfl
theorem T_zero : H.T 0 = H.hf := rfl
theorem T_succ (m : ℕ) (d : Fin 256) (v : Fin 512) :
    H.T (m + 1) d v = H.dec (Fin.ofNat 14 (13 - m)) d * H.T m d v + H.W (Fin.ofNat 14 (13 - m)) d v := rfl

end Head

end Cert.Gla
-- ==== Proof.Pay.lean ====
/-
  The kernel's payloads, read at an index over the extended reals.

  Each lemma says what one printed operation chain of the body holds at an index, in terms of its inputs at
  an index. `head` collects the loads of a grid point as the inputs of one head.
-/
module

public import proofs.«01_k».proof.Proof.Chunk
public import proofs.«01_k».proof.Proof.Gla
public import Idealize.ShloMosaic.Lib.Pointwise
public import Idealize.ShloMosaic.Lib.Pipeline.ValueKit

@[expose] public section

set_option maxRecDepth 16384

noncomputable section

namespace Cert.KernelIdeal.Chunk

open Idealize.ShloMosaic Idealize.ShloMosaic.TcCoe Cert.KernelIdeal Cert.KernelIdeal.Gen Cert.Gla

/-- The scale of the attention. -/
def scale : EReal := (Scalar.ofBits .f32 0x3D800000#32 : Ideal .f32)

/-- The inputs of the head of a grid point; `b` is its batch entry. -/
def head (L : Loads Ideal) (b : Fin 2) : Head where
  q n i d := L.q n (ix4 0 0 i d)
  k n i d := L.k n (ix4 0 0 i d)
  g n i d := L.g n (ix4 0 0 i d)
  v n i d := L.v n (ix4 0 0 i d)
  o n i d := L.o n (ix4 0 0 i d)
  qs := L.qs
  ks := L.ks
  vs := L.vs
  os n i := L.ds ⟨n.val / 2, by omega⟩ (ix3 0 b ⟨64 * (n.val % 2) + i.val, by omega⟩)
  h0 d v := L.h0 (ix4 0 0 d v)
  hf d v := L.hf (ix4 0 0 d v)
  sc := scale

theorem select_pay2 (i j : Fin 64) (a b : EReal) :
    Scalar.select (k0_pay2 (ix2 i j)) a b = if j ≤ i then a else b := by
  have h : ∀ i j : Fin 64, IntOp.cmpi CmpIPredicate.sge (BitVec.ofNat 32 ↑i) (BitVec.ofNat 32 ↑j)
      = if j ≤ i then 1#1 else 0#1 := by decide +kernel
  have h2 : k0_pay2 (ix2 i j) = if j ≤ i then 1#1 else 0#1 := by
    pointwise [k0_pay2]
    exact h i j
  rw [h2]
  by_cases hji : j ≤ i
  · rw [if_pos hji, if_pos hji]; rfl
  · rw [if_neg hji, if_neg hji]; rfl

theorem sum192 (f : Fin 192 → EReal) :
    ∑ x, f x = (∑ x : Fin 64, f ⟨x.val, by omega⟩) + (∑ x : Fin 64, f ⟨64 + x.val, by omega⟩)
      + ∑ x : Fin 64, f ⟨128 + x.val, by omega⟩ := by
  rw [Fin.sum_univ_add (a := 128) (b := 64) f, Fin.sum_univ_add (a := 64) (b := 64)]
  rfl

/-- The gates summed from the head of the chunk: the kernel's product with the stacked triangles. -/
theorem pay16_apply (g : Vec Ideal S1x1x64x256 .f32) (i : Fin 64) (d : Fin 256) :
    k0_pay16 k0_pay3 g (ix2 i d) = ∑ j : Fin 64, if j ≤ i then Head.fin (g (ix4 0 0 j d)) else 0 := by
  rw [← Head.split3_sum (fun j => j ≤ i) (fun j => g (ix4 0 0 j d))]
  pointwise [k0_pay16, k0_pay3]
  rw [sum192]
  refine congrArg₂ (· + ·) (congrArg₂ (· + ·) ?_ ?_) ?_ <;>
  · refine Finset.sum_congr rfl fun x _ => ?_
    have hx := x.isLt
    have h1 : 64 + x.val - 64 = x.val := by omega
    have h2 : 128 + x.val - 64 - 64 = x.val := by omega
    have h3 : ¬ 64 + x.val < 64 := by omega
    have h4 : ¬ 128 + x.val < 64 := by omega
    have h5 : ¬ 128 + x.val - 64 < 64 := by omega
    simp only [hx, h1, h2, h3, h4, h5, select_pay2, dite_true, dite_false]

section
variable (L : Loads Ideal) (M : Bufs) (b : Fin 2)

theorem bc_apply (hg : ∀ n i d, (head L b).g n i d ≠ ⊤) (n : Fin 14) (i : Fin 64)
    (d : Fin 256) : k0_pay16 k0_pay3 (L.g n) (ix2 i d) = (head L b).B n i d := by
  rw [pay16_apply]
  refine Finset.sum_congr rfl fun j _ => ?_
  show (if j ≤ i then Head.fin ((head L b).g n j d) else 0) = _
  rw [Head.fin_of_ne (hg n j d)]

variable (hg : ∀ n i d, (head L b).g n i d ≠ ⊤)
include hg

theorem seb_apply (n : Fin 14) (i : Fin 64) (d : Fin 256) :
    seb L n (ix2 i d) = (head L b).eB n i d * (head L b).sc := by
  unfold seb
  pointwise [k0_pay18]
  rw [bc_apply L b hg]
  rfl

theorem enb_apply (n : Fin 14) (i : Fin 64) (d : Fin 256) : enb L n (ix2 i d) = (head L b).enB n i d := by
  unfold enb
  pointwise [k0_pay19]
  rw [bc_apply L b hg]
  simp only [Head.enB, zero_sub]

theorem gt_apply (n : Fin 14) (d : Fin 256) : k0_pay17 k0_pay3 (L.g n) (ix2 0 d) = (head L b).G n d := by
  pointwise [k0_pay17]
  exact bc_apply L b hg n 63 d

theorem egb_apply (n : Fin 14) (i : Fin 64) (d : Fin 256) : egb L n (ix2 i d) = (head L b).eGB n i d := by
  unfold egb
  pointwise [k0_pay20]
  rw [bc_apply L b hg, gt_apply L b hg]
  rfl

theorem dec_apply (n : Fin 14) (d : Fin 256) : dec L n (ix2 0 d) = (head L b).dec n d := by
  unfold dec
  pointwise [k0_pay21]
  rw [gt_apply L b hg]
  rfl

theorem qg_apply (n : Fin 14) (i : Fin 64) (d : Fin 256) : qg L n (ix2 i d) = (head L b).qg n i d := by
  unfold qg
  pointwise [k0_pay25, k0_pay22]
  rw [seb_apply L b hg, ← Head.qg_eq]
  rfl

theorem kg_apply (n : Fin 14) (i : Fin 64) (d : Fin 256) : kg L n (ix2 i d) = (head L b).kg n i d := by
  unfold kg
  pointwise [k0_pay26, k0_pay23]
  rw [enb_apply L b hg]
  rfl

theorem kds_apply (n : Fin 14) (i : Fin 64) (d : Fin 256) :
    kds L n (ix2 i d) = (head L b).kr n i d * ((head L b).eGB n i d * (head L b).vs n) := by
  unfold kds
  pointwise [k0_pay27, k0_pay23, k0_pay24]
  rw [egb_apply L b hg]
  rfl

omit hg in
theorem vb_apply (n : Fin 14) (i : Fin 64) (v : Fin 512) : vb L n (ix2 i v) = (head L b).v n i v := by
  unfold vb
  pointwise [k0_pay33]
  rfl

/-- The state before chunk `n`, transposed. -/
theorem st_apply (hv : ∀ n, 0 ≤ (head L b).vs n ∧ (head L b).vs n ≠ ⊤) (n : ℕ) (v : Fin 512) (d : Fin 256) :
    st L n (ix2 v d) = (head L b).S n d v := by
  induction n with
  | zero =>
    rw [st_zero]
    pointwise [k0_pay15]
    rfl
  | succ n ih =>
    rw [st_succ, Head.S_succ, ← ih, ← Head.U_eq _ _ _ _ (hv _).1 (hv _).2]
    pointwise [k0_pay39, k0_pay38]
    rw [dec_apply L b hg]
    simp only [kds_apply L b hg, vb_apply L b]

theorem dqI_apply (hv : ∀ n, 0 ≤ (head L b).vs n ∧ (head L b).vs n ≠ ⊤) (n : Fin 14) (i : Fin 64) (d : Fin 256) :
    dqI L n (ix2 i d) = (head L b).dqI n i d := by
  unfold dqI
  pointwise [k0_pay37]
  simp only [st_apply L b hg hv]
  rfl

omit hg in
/-- A stored tile of the token scales: the row of the batch entry, the same in every lane. -/
theorem pay13_apply (hb : L.pid = BitVec.ofNat 32 b.val) (x : Vec Ideal S1x2x128 .f32) (i l : Fin 128) :
    k0_pay13 L.pid x (ix2 i l) = x (ix3 0 b i) := by
  pointwise [k0_pay13]
  rw [hb, Fin.sum_univ_two]
  have h : ∀ a b : Fin 2, IntOp.cmpi CmpIPredicate.eq (BitVec.ofNat 32 a.val) (BitVec.ofNat 32 b.val)
      = if a = b then 1#1 else 0#1 := by decide +kernel
  rw [h 0 b, h 1 b]
  rcases (by omega : b = 0 ∨ b = 1) with rfl | rfl
  · exact add_zero _
  · exact zero_add _

omit hg in
theorem dosb_apply (hb : L.pid = BitVec.ofNat 32 b.val) (n : Fin 14) (i : Fin 64) (l : Fin 128) :
    dosb L M n (ix2 i l) = (head L b).os n i := by
  unfold dosb dosbList
  rw [View.readCov_eq_canon']
  refine View.canon_ofFn_eq_of_forall (Val := Elt Ideal) (e := .f32) (fun k : Fin 7 => tileD (Fin.rev k))
    (fun k => k0_pay13 L.pid (L.ds (Fin.rev k))) _ _ ?_ ?_
  · refine ⟨Fin.rev ⟨n.val / 2, by omega⟩, Rect.mem_set_unit.mpr fun a => ?_⟩
    rw [Fin.rev_rev]
    fin_cases a
    · show 128 * (n.val / 2) ≤ 64 * n.val + 1 * i.val ∧ 64 * n.val + 1 * i.val < 128 * (n.val / 2) + 128
      omega
    · show 0 ≤ 0 + 1 * l.val ∧ 0 + 1 * l.val < 0 + 128
      omega
  · intro k x hx
    generalize Fin.rev k = k' at x hx ⊢
    obtain ⟨x0, x1, rfl⟩ : ∃ (x0 x1 : Fin 128), x = ix2 x0 x1 := ⟨x 0, x 1, eq_ix2 x⟩
    have h0 : 128 * k'.val + 1 * x0.val = 64 * n.val + 1 * i.val := congrArg (fun y => (y 0).val) hx
    have hk : k' = ⟨n.val / 2, by omega⟩ := Fin.ext (by show k'.val = n.val / 2; omega)
    have hx0 : x0 = ⟨64 * (n.val % 2) + i.val, by omega⟩ :=
      Fin.ext (by show x0.val = 64 * (n.val % 2) + i.val; omega)
    rw [hk, hx0]
    exact pay13_apply L b hb _ _ _

omit hg in
theorem att_apply (hb : L.pid = BitVec.ofNat 32 b.val) (n : Fin 14) (i j : Fin 64) :
    att L M n (ix2 i j) = (head L b).A n i j := by
  unfold att
  pointwise [k0_pay34]
  rw [select_pay2, dosb_apply L M b hb]
  rfl

/-- A stored tile of `dq`. -/
theorem dqPiece_apply (hv : ∀ n, 0 ≤ (head L b).vs n ∧ (head L b).vs n ≠ ⊤) (hb : L.pid = BitVec.ofNat 32 b.val)
    (n : Fin 14) (i : Fin 64) (d : Fin 256) :
    k0_pay41 (seb L n) (kg L n) (dosb L M n) (att L M n) (dqI L n) (ix4 0 0 i d) = (head L b).dq n i d := by
  pointwise [k0_pay41, k0_pay40]
  simp only [dosb_apply L M b hb, dite_eq_ite, ite_self]
  rw [seb_apply L b hg, dqI_apply L b hg hv, ← Head.dq_eq]
  simp only [att_apply L M b hb, kg_apply L b hg]

end

/-! ### Reading the scratch buffers back -/

/-- Disjoint tiles stored from the first to the last: under a tile the buffer holds what that tile was stored. -/
theorem canon_rev {S : Shape} {e : EltTy} {N : ℕ} (R : Fin N → Rect S) (P : (k : Fin N) → (R k).shape.Idx → Elt Ideal e)
    (hd : ∀ k k', k ≠ k' → Disjoint (R k).set (R k').set) (n : Fin N) (x : (R n).shape.Idx) :
    View.canon (List.ofFn fun k => (⟨R (Fin.rev k), P (Fin.rev k)⟩ : View.Piece (Elt Ideal) S e)) ((R n).emb x)
      = P n x := by
  refine View.canon_ofFn_eq_of_forall (fun k => R (Fin.rev k)) (fun k => P (Fin.rev k)) _ _
    ⟨Fin.rev n, by rw [Fin.rev_rev]; exact (R n).idx_mem x⟩ ?_
  intro k x' hx'
  generalize Fin.rev k = k' at x' hx' ⊢
  by_cases hk : k' = n
  · subst hk
    rw [(R k').emb.injective hx']
  · exfalso
    have h1 : (R n).emb x ∈ (R k').set := by rw [← hx']; exact (R k').idx_mem x'
    exact Finset.disjoint_left.mp (hd k' n hk) h1 ((R n).idx_mem x)

theorem rows_disj (k k' : Fin 14) (h : k ≠ k') : Disjoint (rows k).set (rows k').set := by
  refine Finset.disjoint_left.mpr fun y hy hy' => h (Fin.ext ?_)
  have h1 : 64 * k.val ≤ (y 0).val ∧ (y 0).val < 64 * k.val + 64 := Rect.mem_set_unit.mp hy 0
  have h2 : 64 * k'.val ≤ (y 0).val ∧ (y 0).val < 64 * k'.val + 64 := Rect.mem_set_unit.mp hy' 0
  omega

theorem rowG_disj (k k' : Fin 14) (h : k ≠ k') : Disjoint (rowG k).set (rowG k').set := by
  refine Finset.disjoint_left.mpr fun y hy hy' => h (Fin.ext ?_)
  have h1 : k.val ≤ (y 0).val ∧ (y 0).val < k.val + 1 := Rect.mem_set_unit.mp hy 0
  have h2 : k'.val ≤ (y 0).val ∧ (y 0).val < k'.val + 1 := Rect.mem_set_unit.mp hy' 0
  omega

theorem pageA_disj (k k' : Fin 14) (h : k ≠ k') : Disjoint (pageA k).set (pageA k').set := by
  refine Finset.disjoint_left.mpr fun y hy hy' => h (Fin.ext ?_)
  have h1 : k.val ≤ (y 0).val ∧ (y 0).val < k.val + 1 := Rect.mem_set_unit.mp hy 0
  have h2 : k'.val ≤ (y 0).val ∧ (y 0).val < k'.val + 1 := Rect.mem_set_unit.mp hy' 0
  omega

theorem blk256_disj (k k' : Fin 14) (h : k ≠ k') : Disjoint (blk256 k).set (blk256 k').set := by
  refine Finset.disjoint_left.mpr fun y hy hy' => h (Fin.ext ?_)
  have h1 : 64 * k.val ≤ (y 2).val ∧ (y 2).val < 64 * k.val + 64 := Rect.mem_set_unit.mp hy 2
  have h2 : 64 * k'.val ≤ (y 2).val ∧ (y 2).val < 64 * k'.val + 64 := Rect.mem_set_unit.mp hy' 2
  omega

theorem blk512_disj (k k' : Fin 14) (h : k ≠ k') : Disjoint (blk512 k).set (blk512 k').set := by
  refine Finset.disjoint_left.mpr fun y hy hy' => h (Fin.ext ?_)
  have h1 : 64 * k.val ≤ (y 2).val ∧ (y 2).val < 64 * k.val + 64 := Rect.mem_set_unit.mp hy 2
  have h2 : 64 * k'.val ≤ (y 2).val ∧ (y 2).val < 64 * k'.val + 64 := Rect.mem_set_unit.mp hy' 2
  omega

section
variable (L : Loads Ideal) (M : Bufs) (b : Fin 2)
variable (hg : ∀ n i d, (head L b).g n i d ≠ ⊤)
  (hv : ∀ n, 0 ≤ (head L b).vs n ∧ (head L b).vs n ≠ ⊤) (hb : L.pid = BitVec.ofNat 32 b.val)

include hg in
theorem qgR_apply (n : Fin 14) (i : Fin 64) (d : Fin 256) : qgR L M n (ix2 i d) = (head L b).qg n i d := by
  unfold qgR qgList
  rw [View.readCov_eq_canon']
  refine (canon_rev (e := .bf16) rows (fun k => k0_pay28 (L.qs k) (seb L k) (L.q k)) rows_disj n (ix2 i d)).trans ?_
  pointwise [k0_pay28]
  exact qg_apply L b hg n i d

include hg in
theorem kdR_apply (n : Fin 14) (i : Fin 64) (d : Fin 256) : kdR L M n (ix2 i d) = (head L b).kd n i d := by
  unfold kdR kdList
  rw [View.readCov_eq_canon']
  refine (canon_rev (e := .bf16) rows (fun k => k0_pay29 (L.ks k) (egb L k) (L.k k)) rows_disj n (ix2 i d)).trans ?_
  pointwise [k0_pay29, k0_pay23]
  rw [egb_apply L b hg]
  rfl

include hg in
theorem enbR_apply (n : Fin 14) (i : Fin 64) (d : Fin 256) : enbR L M n (ix2 i d) = (head L b).enB n i d := by
  unfold enbR enbList
  rw [View.readCov_eq_canon']
  refine (canon_rev (e := .f32) rows (fun k => k0_pay30 (enb L k)) rows_disj n (ix2 i d)).trans ?_
  pointwise [k0_pay30]
  exact enb_apply L b hg n i d

include hg in
theorem egbvR_apply (n : Fin 14) (i : Fin 64) (d : Fin 256) :
    egbvR L M n (ix2 i d) = (head L b).eGB n i d * (head L b).vs n := by
  unfold egbvR egbvList
  rw [View.readCov_eq_canon']
  refine (canon_rev (e := .f32) rows (fun k => k0_pay31 (L.vs k) (egb L k)) rows_disj n (ix2 i d)).trans ?_
  pointwise [k0_pay31, k0_pay24]
  rw [egb_apply L b hg]
  rfl

include hg in
theorem decR_apply (n : Fin 14) (d : Fin 256) : decR L M n (ix2 0 d) = (head L b).dec n d := by
  unfold decR decList
  rw [View.readCov_eq_canon']
  refine (canon_rev (e := .f32) rowG (fun k => k0_pay32 (dec L k)) rowG_disj n (ix2 0 d)).trans ?_
  pointwise [k0_pay32]
  exact dec_apply L b hg n d

include hb in
theorem aR_apply (n : Fin 14) (i j : Fin 64) : aR L M n (ix3 0 i j) = (head L b).A n i j := by
  unfold aR aList
  rw [View.readCov_eq_canon']
  refine (canon_rev (e := .bf16) pageA (fun k => k0_pay35 k0_pay2 (L.vs k) (dosb L M k) (L.o k) (L.v k)) pageA_disj n
    (ix3 0 i j)).trans ?_
  pointwise [k0_pay35]
  exact att_apply L M b hb n i j

include hg in
theorem pR_apply (n : Fin 14) (i j : Fin 64) : pR L M n (ix3 0 i j) = (head L b).P n i j := by
  unfold pR pList
  rw [View.readCov_eq_canon']
  refine (canon_rev (e := .bf16) pageA (fun k => k0_pay36 k0_pay2 (qg L k) (kg L k)) pageA_disj n (ix3 0 i j)).trans ?_
  pointwise [k0_pay36]
  rw [select_pay2]
  simp only [qg_apply L b hg, kg_apply L b hg]
  rfl

include hb in
theorem dod_apply (n : Fin 14) (i : Fin 64) (v : Fin 512) : dod L M n (ix2 i v) = (head L b).od n i v := by
  unfold dod
  pointwise [k0_pay421]
  simp only [dosb_apply L M b hb, dite_eq_ite, ite_self]
  rfl

include hg hb in
/-- The gradient of the state after `m` chunks, transposed. -/
theorem tt_apply (m : ℕ) (v : Fin 512) (d : Fin 256) : tt L M m (ix2 v d) = (head L b).T m d v := by
  induction m with
  | zero =>
    rw [tt_zero]
    pointwise [k0_pay418, k0_pay416]
    rfl
  | succ m ih =>
    rw [tt_succ, Head.T_succ, ← ih]
    pointwise [k0_pay423]
    rw [decR_apply L M b hg]
    simp only [qgR_apply L M b hg, dod_apply L M b hb]
    simp only [Head.W, mul_comm ((head L b).od _ _ _)]

include hg hb in
theorem dk_apply (n : Fin 14) (j : Fin 64) (d : Fin 256) : dk L M (13 - n.val) (ix2 j d) = (head L b).dk n j d := by
  have hn : bk (13 - n.val) = n := Fin.ext (by show (13 - (13 - n.val)) % 14 = n.val; omega)
  unfold dk
  rw [hn]
  pointwise [k0_pay425, k0_pay422]
  rw [egbvR_apply L M b hg, enbR_apply L M b hg, ← Head.dk_eq]
  simp only [vb_apply L b, tt_apply L M b hg hb, aR_apply L M b hb, qgR_apply L M b hg]
  rfl

include hg hb in
/-- A stored tile of `dk`. -/
theorem dkPiece_apply (n : Fin 14) (j : Fin 64) (d : Fin 256) :
    k0_pay427 (truncf .bf16 (dk L M (13 - n.val)) bitsLt_bf16_f32) (ix4 0 0 j d) = (head L b).dk n j d := by
  pointwise [k0_pay427]
  exact dk_apply L M b hg hb n j d

include hg hb in
/-- A stored tile of `dv`. -/
theorem dvPiece_apply (n : Fin 14) (j : Fin 64) (v : Fin 512) :
    k0_pay424 (dod L M n) (kdR L M n) (pR L M n) (tt L M (13 - n.val)) (ix4 0 0 j v) = (head L b).dv n j v := by
  pointwise [k0_pay424, k0_pay422]
  simp only [kdR_apply L M b hg, tt_apply L M b hg hb, pR_apply L M b hg, dod_apply L M b hb]
  rfl

include hg hb in
/-- The stored `dh0`. -/
theorem dh0Piece_apply (d : Fin 256) (v : Fin 512) :
    k0_pay1 (k0_pay629 (tt L M 14)) (ix4 0 0 d v) = (head L b).T 14 d v := by
  pointwise [k0_pay1, k0_pay629]
  exact tt_apply L M b hg hb 14 v d

end

end Cert.KernelIdeal.Chunk
-- ==== Proof.Args.lean ====
/-
  The inputs of one head, taken out of the argument arrays.
-/
module

public import proofs.«01_k».proof.Proof.Gla
public import Idealize.ShloMosaic.Lib.Pointwise

@[expose] public section

noncomputable section

namespace Cert.Gla

open Idealize.ShloMosaic Idealize.ShloMosaic.TcCoe

/-- The inputs of the head `h` of batch entry `b`, from the arguments in their order. -/
def headOf (q k : (⟨4, ![2, 896, 5, 256]⟩ : Shape).Idx → EReal) (qs ks : (⟨3, ![2, 14, 5]⟩ : Shape).Idx → EReal)
    (v : (⟨4, ![2, 896, 5, 512]⟩ : Shape).Idx → EReal) (vs : (⟨3, ![2, 14, 5]⟩ : Shape).Idx → EReal)
    (o : (⟨4, ![2, 896, 5, 512]⟩ : Shape).Idx → EReal) (os : (⟨3, ![2, 896, 5]⟩ : Shape).Idx → EReal)
    (g : (⟨4, ![2, 896, 5, 256]⟩ : Shape).Idx → EReal) (h0 hf : (⟨4, ![2, 5, 256, 512]⟩ : Shape).Idx → EReal)
    (b : Fin 2) (h : Fin 5) : Head where
  q n i d := q (ix4 b ⟨n.val * 64 + i.val, by omega⟩ h d)
  k n i d := k (ix4 b ⟨n.val * 64 + i.val, by omega⟩ h d)
  g n i d := g (ix4 b ⟨n.val * 64 + i.val, by omega⟩ h d)
  v n i d := v (ix4 b ⟨n.val * 64 + i.val, by omega⟩ h d)
  o n i d := o (ix4 b ⟨n.val * 64 + i.val, by omega⟩ h d)
  qs n := qs (ix3 b n h)
  ks n := ks (ix3 b n h)
  vs n := vs (ix3 b n h)
  os n i := os (ix3 b ⟨n.val * 64 + i.val, by omega⟩ h)
  h0 d v := h0 (ix4 b h d v)
  hf d v := hf (ix4 b h d v)
  sc := (Scalar.ofBits .f32 0x3D800000#32 : Ideal .f32)

end Cert.Gla
-- ==== Proof.Blocks.lean ====
/-
  The input windows of the kernel, read at an index: each block of a grid point is the part of an argument that
  belongs to the point's batch entry and head.
-/
module

public import proofs.«01_k».proof.Proof.Gen.KernelIdeal.Run
public import proofs.«01_k».proof.Proof.Pay
public import proofs.«01_k».proof.Proof.Args
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelIdeal.Chunk

open Idealize.ShloMosaic Idealize.ShloMosaic.TcCoe Idealize.SL.Sem
open Cert.KernelIdeal Cert.KernelIdeal.Gen Cert.Gla

variable (m : (ℓ : Loc nD τ sig) → Buf (Elt Ideal) ℓ) (c : Dev nD) (t : Fin cfg0.N)

/-- The batch entry and the head of a grid point. -/
def bOf : Fin 2 := ⟨(grid0.coords t 0).val, (grid0.coords t 0).isLt⟩
def hOf : Fin 5 := ⟨(grid0.coords t 1).val, (grid0.coords t 1).isLt⟩

theorem idx_qs : ∀ t : Fin cfg0.N, win0_0.index t = ![0, 0, 0] := by decide +kernel
theorem idx_ks : ∀ t : Fin cfg0.N, win0_1.index t = ![0, 0, 0] := by decide +kernel
theorem idx_vs : ∀ t : Fin cfg0.N, win0_2.index t = ![0, 0, 0] := by decide +kernel
theorem idx_os : ∀ t : Fin cfg0.N, win0_7.index t = ![0, 0, 0] := by decide +kernel
theorem idx_q : ∀ t : Fin cfg0.N, win0_3.index t = ![(grid0.coords t 0).val, (grid0.coords t 1).val, 0, 0] := by
  decide +kernel
theorem idx_k : ∀ t : Fin cfg0.N, win0_4.index t = ![(grid0.coords t 0).val, (grid0.coords t 1).val, 0, 0] := by
  decide +kernel
theorem idx_v : ∀ t : Fin cfg0.N, win0_5.index t = ![(grid0.coords t 0).val, (grid0.coords t 1).val, 0, 0] := by
  decide +kernel
theorem idx_o : ∀ t : Fin cfg0.N, win0_6.index t = ![(grid0.coords t 0).val, (grid0.coords t 1).val, 0, 0] := by
  decide +kernel
theorem idx_g : ∀ t : Fin cfg0.N, win0_8.index t = ![(grid0.coords t 0).val, (grid0.coords t 1).val, 0, 0] := by
  decide +kernel
theorem idx_h0 : ∀ t : Fin cfg0.N, win0_9.index t = ![(grid0.coords t 0).val, (grid0.coords t 1).val, 0, 0] := by
  decide +kernel
theorem idx_hf : ∀ t : Fin cfg0.N, win0_10.index t = ![(grid0.coords t 0).val, (grid0.coords t 1).val, 0, 0] := by
  decide +kernel

/-- What the host's transposes leave in the operands, at an index. -/
theorem V_v0 (j : S5x2x14.Idx) : V m c main_v0 j = m ((c : Thread nD τ).loc main_arg2) (ix3 (j 1) (j 2) (j 0)) := by
  unfold V V0
  after_reads_at
theorem V_v1 (j : S5x2x14.Idx) : V m c main_v1 j = m ((c : Thread nD τ).loc main_arg3) (ix3 (j 1) (j 2) (j 0)) := by
  unfold V V0
  after_reads_at
theorem V_v2 (j : S5x2x14.Idx) : V m c main_v2 j = m ((c : Thread nD τ).loc main_arg5) (ix3 (j 1) (j 2) (j 0)) := by
  unfold V V0
  after_reads_at
theorem V_v7 (j : S5x2x896.Idx) : V m c main_v7 j = m ((c : Thread nD τ).loc main_arg7) (ix3 (j 1) (j 2) (j 0)) := by
  unfold V V0
  after_reads_at
theorem V_v3 (j : S2x5x896x256.Idx) :
    V m c main_v3 j = m ((c : Thread nD τ).loc main_arg0) (ix4 (j 0) (j 2) (j 1) (j 3)) := by
  unfold V V0
  after_reads_at
theorem V_v4 (j : S2x5x896x256.Idx) :
    V m c main_v4 j = m ((c : Thread nD τ).loc main_arg1) (ix4 (j 0) (j 2) (j 1) (j 3)) := by
  unfold V V0
  after_reads_at
theorem V_v5 (j : S2x5x896x512.Idx) :
    V m c main_v5 j = m ((c : Thread nD τ).loc main_arg4) (ix4 (j 0) (j 2) (j 1) (j 3)) := by
  unfold V V0
  after_reads_at
theorem V_v6 (j : S2x5x896x512.Idx) :
    V m c main_v6 j = m ((c : Thread nD τ).loc main_arg6) (ix4 (j 0) (j 2) (j 1) (j 3)) := by
  unfold V V0
  after_reads_at
theorem V_v8 (j : S2x5x896x256.Idx) :
    V m c main_v8 j = m ((c : Thread nD τ).loc main_arg8) (ix4 (j 0) (j 2) (j 1) (j 3)) := by
  unfold V V0
  after_reads_at

/-- The blocks of a grid point, at an index. -/
theorem iblk_qs (x : Fin 5) (y : Fin 2) (n : Fin 14) :
    iblk m c 0 t (ix3 x y n) = m ((c : Thread nD τ).loc main_arg2) (ix3 y n x) := by
  refine (V_v0 m c _).trans (congrArg _ ?_)
  blk_ext! [idx_qs t]
theorem iblk_ks (x : Fin 5) (y : Fin 2) (n : Fin 14) :
    iblk m c 1 t (ix3 x y n) = m ((c : Thread nD τ).loc main_arg3) (ix3 y n x) := by
  refine (V_v1 m c _).trans (congrArg _ ?_)
  blk_ext! [idx_ks t]
theorem iblk_vs (x : Fin 5) (y : Fin 2) (n : Fin 14) :
    iblk m c 2 t (ix3 x y n) = m ((c : Thread nD τ).loc main_arg5) (ix3 y n x) := by
  refine (V_v2 m c _).trans (congrArg _ ?_)
  blk_ext! [idx_vs t]
theorem iblk_os (x : Fin 5) (y : Fin 2) (n : Fin 896) :
    iblk m c 7 t (ix3 x y n) = m ((c : Thread nD τ).loc main_arg7) (ix3 y n x) := by
  refine (V_v7 m c _).trans (congrArg _ ?_)
  blk_ext! [idx_os t]
theorem iblk_q (r : Fin 896) (d : Fin 256) :
    iblk m c 3 t (ix4 0 0 r d) = m ((c : Thread nD τ).loc main_arg0) (ix4 (bOf t) r (hOf t) d) := by
  refine (V_v3 m c _).trans (congrArg _ ?_)
  blk_ext! [idx_q t, bOf, hOf]
theorem iblk_k (r : Fin 896) (d : Fin 256) :
    iblk m c 4 t (ix4 0 0 r d) = m ((c : Thread nD τ).loc main_arg1) (ix4 (bOf t) r (hOf t) d) := by
  refine (V_v4 m c _).trans (congrArg _ ?_)
  blk_ext! [idx_k t, bOf, hOf]
theorem iblk_v (r : Fin 896) (d : Fin 512) :
    iblk m c 5 t (ix4 0 0 r d) = m ((c : Thread nD τ).loc main_arg4) (ix4 (bOf t) r (hOf t) d) := by
  refine (V_v5 m c _).trans (congrArg _ ?_)
  blk_ext! [idx_v t, bOf, hOf]
theorem iblk_o (r : Fin 896) (d : Fin 512) :
    iblk m c 6 t (ix4 0 0 r d) = m ((c : Thread nD τ).loc main_arg6) (ix4 (bOf t) r (hOf t) d) := by
  refine (V_v6 m c _).trans (congrArg _ ?_)
  blk_ext! [idx_o t, bOf, hOf]
theorem iblk_g (r : Fin 896) (d : Fin 256) :
    iblk m c 8 t (ix4 0 0 r d) = m ((c : Thread nD τ).loc main_arg8) (ix4 (bOf t) r (hOf t) d) := by
  refine (V_v8 m c _).trans (congrArg _ ?_)
  blk_ext! [idx_g t, bOf, hOf]
theorem iblk_h0 (d : Fin 256) (v : Fin 512) :
    iblk m c 9 t (ix4 0 0 d v) = m ((c : Thread nD τ).loc main_arg9) (ix4 (bOf t) (hOf t) d v) := by
  blk_ext! [iblk, V, idx_h0 t, bOf, hOf]
theorem iblk_hf (d : Fin 256) (v : Fin 512) :
    iblk m c 10 t (ix4 0 0 d v) = m ((c : Thread nD τ).loc main_arg10) (ix4 (bOf t) (hOf t) d v) := by
  blk_ext! [iblk, V, idx_hf t, bOf, hOf]

/-- A load of a chunk out of a window over the keys' lanes. -/
theorem read_blk256 {e : EltTy} (arg : Memref sig .tc .vmem S1x1x896x256 e) (h : arg.IsWhole) (x : S1x1x896x256.Idx → Elt Ideal e)
    (n : Fin 14) (i : Fin 64) (d : Fin 256) :
    arg.view.readAt (Elt Ideal) (blk256 n).toLoadRect (h.unread x) (ix4 0 0 i d) = x (ix4 0 0 ⟨n.val * 64 + i.val, by omega⟩ d) := by
  rw [View.readAt_eq_ld, h.read_unread]
  refine View.ld_unit_apply_of x _ _ _ _ _ fun a => ?_
  match a with
  | ⟨0, _⟩ => rfl
  | ⟨1, _⟩ => rfl
  | ⟨2, _⟩ => show n.val * 64 + i.val = 64 * n.val + i.val; omega
  | ⟨3, _⟩ => show d.val = 0 + d.val; omega

/-- A load of a chunk out of a window over the values' lanes. -/
theorem read_blk512 {e : EltTy} (arg : Memref sig .tc .vmem S1x1x896x512 e) (h : arg.IsWhole) (x : S1x1x896x512.Idx → Elt Ideal e)
    (n : Fin 14) (i : Fin 64) (d : Fin 512) :
    arg.view.readAt (Elt Ideal) (blk512 n).toLoadRect (h.unread x) (ix4 0 0 i d) = x (ix4 0 0 ⟨n.val * 64 + i.val, by omega⟩ d) := by
  rw [View.readAt_eq_ld, h.read_unread]
  refine View.ld_unit_apply_of x _ _ _ _ _ fun a => ?_
  match a with
  | ⟨0, _⟩ => rfl
  | ⟨1, _⟩ => rfl
  | ⟨2, _⟩ => show n.val * 64 + i.val = 64 * n.val + i.val; omega
  | ⟨3, _⟩ => show d.val = 0 + d.val; omega

/-- A load of a chunk's scale: one word. -/
theorem read_boxS (i : grid0.Coords) (arg : Memref sig .tc .smem S5x2x14 .f32) (h : arg.IsWhole) (x : S5x2x14.Idx → Elt Ideal .f32)
    (n : Fin 14) : arg.view.readAt (Elt Ideal) (boxS i n).toLoadRect (h.unread x) (Shape.Idx.first one_pos')
      = x (ix3 ⟨(i 1).val, (i 1).isLt⟩ ⟨(i 0).val, (i 0).isLt⟩ n) := by
  rw [View.readAt_eq_ld, h.read_unread]
  refine View.ld_unit_apply_of x _ _ _ _ _ fun a => ?_
  have h1 : ∀ i : Fin 5, (Scalar.indexCast (BitVec.ofNat 32 i.val)).toNat = i.val := by decide +kernel
  have h0 : ∀ i : Fin 2, (Scalar.indexCast (BitVec.ofNat 32 i.val)).toNat = i.val := by decide +kernel
  match a with
  | ⟨0, _⟩ => exact (h1 (i 1)).symm
  | ⟨1, _⟩ => exact (h0 (i 0)).symm
  | ⟨2, _⟩ => rfl

/-- A load of a tile of the token scales. -/
theorem read_boxD (i : grid0.Coords) (arg : Memref sig .tc .vmem S5x2x896 .f32) (h : arg.IsWhole) (x : S5x2x896.Idx → Elt Ideal .f32)
    (t : Fin 7) (b : Fin 2) (r : Fin 128) : arg.view.readAt (Elt Ideal) (boxD i t).toLoadRect (h.unread x) (ix3 0 b r)
      = x (ix3 ⟨(i 1).val, (i 1).isLt⟩ b ⟨128 * t.val + r.val, by omega⟩) := by
  rw [View.readAt_eq_ld, h.read_unread]
  refine View.ld_unit_apply_of x _ _ _ _ _ fun a => ?_
  have h1 : ∀ i : Fin 5, (Scalar.indexCast (BitVec.ofNat 32 i.val)).toNat = i.val := by decide +kernel
  match a with
  | ⟨0, _⟩ => exact (h1 (i 1)).symm
  | ⟨1, _⟩ => show b.val = 0 + b.val; omega
  | ⟨2, _⟩ => rfl

/-- A load of a whole state. -/
theorem read_state (arg : Memref sig .tc .vmem S1x1x256x512 .f32) (h : arg.IsWhole) (x : S1x1x256x512.Idx → Elt Ideal .f32)
    (d : Fin 256) (v : Fin 512) : arg.view.readAt (Elt Ideal) (Rect.unit ![0, 0, 0, 0] S1x1x256x512.size
    inb_S1x1x256x512_S1x1x256x512_0_0_0_0).toLoadRect (h.unread x) (ix4 0 0 d v) = x (ix4 0 0 d v) := by
  rw [View.readAt_eq_ld, h.read_unread]
  refine View.ld_unit_apply_of x _ _ _ _ _ fun a => ?_
  match a with
  | ⟨0, _⟩ => rfl
  | ⟨1, _⟩ => rfl
  | ⟨2, _⟩ => show d.val = 0 + d.val; omega
  | ⟨3, _⟩ => show v.val = 0 + v.val; omega

end Cert.KernelIdeal.Chunk
-- ==== Proof.Bridge_dq.lean ====
/-
  The kernel's run in the vocabulary of `Chunk`: what each output window is written.
-/
module

public import proofs.«01_k».proof.Proof.Gen.KernelIdeal.Frame.RunA
public import proofs.«01_k».proof.Proof.Chunk

@[expose] public section

set_option maxRecDepth 16384

set_option maxHeartbeats 0
noncomputable section

namespace Cert.KernelIdeal.Chunk

open Cert.KernelIdeal.Gen.kernelRun0_A.sl
open Idealize.ShloMosaic Idealize.ShloMosaic.TcCoe Cert.KernelIdeal Cert.KernelIdeal.Gen

variable {F : FTy → Type} [FloatOps F]
variable (c : Dev nD) (i : grid0.Coords)
  (arg2 : Memref sig .tc .smem S5x2x14 .f32) (harg2 : arg2.IsWhole)
  (arg3 : Memref sig .tc .smem S5x2x14 .f32) (harg3 : arg3.IsWhole)
  (arg4 : Memref sig .tc .smem S5x2x14 .f32) (harg4 : arg4.IsWhole)
  (arg5 : Memref sig .tc .vmem S1x1x896x256 .fp8e4m3) (harg5 : arg5.IsWhole)
  (arg6 : Memref sig .tc .vmem S1x1x896x256 .fp8e4m3) (harg6 : arg6.IsWhole)
  (arg7 : Memref sig .tc .vmem S1x1x896x512 .fp8e4m3) (harg7 : arg7.IsWhole)
  (arg8 : Memref sig .tc .vmem S1x1x896x512 .fp8e5m2) (harg8 : arg8.IsWhole)
  (arg9 : Memref sig .tc .vmem S5x2x896 .f32) (harg9 : arg9.IsWhole)
  (arg10 : Memref sig .tc .vmem S1x1x896x256 .f32) (harg10 : arg10.IsWhole)
  (arg11 : Memref sig .tc .vmem S1x1x256x512 .f32) (harg11 : arg11.IsWhole)
  (arg12 : Memref sig .tc .vmem S1x1x256x512 .f32) (harg12 : arg12.IsWhole)
  (arg13 : Memref sig .tc .vmem S1x1x896x256 .bf16) (harg13 : arg13.IsWhole)
  (arg14 : Memref sig .tc .vmem S1x1x896x256 .bf16) (harg14 : arg14.IsWhole)
  (arg15 : Memref sig .tc .vmem S1x1x896x512 .bf16) (harg15 : arg15.IsWhole)
  (arg16 : Memref sig .tc .vmem S1x1x896x256 .f32) (harg16 : arg16.IsWhole)
  (arg17 : Memref sig .tc .vmem S1x1x896x256 .f32) (harg17 : arg17.IsWhole)
  (arg18 : Memref sig .tc .vmem S1x1x256x512 .f32) (harg18 : arg18.IsWhole)
  (arg19 : Memref sig .tc .vmem S512x256 .f32) (harg19 : arg19.IsWhole)
  (arg20 : Memref sig .tc .vmem S896x256 .bf16) (harg20 : arg20.IsWhole)
  (arg21 : Memref sig .tc .vmem S896x256 .bf16) (harg21 : arg21.IsWhole)
  (arg22 : Memref sig .tc .vmem S896x256 .f32) (harg22 : arg22.IsWhole)
  (arg23 : Memref sig .tc .vmem S896x256 .f32) (harg23 : arg23.IsWhole)
  (arg24 : Memref sig .tc .vmem S896x256 .f32) (harg24 : arg24.IsWhole)
  (arg25 : Memref sig .tc .vmem S14x256 .f32) (harg25 : arg25.IsWhole)
  (arg26 : Memref sig .tc .vmem S14x64x64 .bf16) (harg26 : arg26.IsWhole)
  (arg27 : Memref sig .tc .vmem S14x64x64 .bf16) (harg27 : arg27.IsWhole)
  (arg28 : Memref sig .tc .vmem S896x128 .f32) (harg28 : arg28.IsWhole)
  (x0 x1 x2 : Vec F S5x2x14 .f32) (x3 x4 : Vec F S1x1x896x256 .fp8e4m3) (x5 : Vec F S1x1x896x512 .fp8e4m3)
  (x6 : Vec F S1x1x896x512 .fp8e5m2) (x7 : Vec F S5x2x896 .f32) (x8 : Vec F S1x1x896x256 .f32)
  (x9 x10 : Vec F S1x1x256x512 .f32)

/-- The loads at this grid point. -/
abbrev theLoads : Loads F :=
  loads i arg2 harg2 arg3 harg3 arg4 harg4 arg5 harg5 arg6 harg6 arg7 harg7 arg8 harg8 arg9 harg9 arg10 harg10 arg11
    harg11 arg12 harg12 x0 x1 x2 x3 x4 x5 x6 x7 x8 x9 x10

/-- The scratch buffers of the run. -/
abbrev theBufs : Bufs := ⟨arg19, arg20, arg21, arg22, arg23, arg24, arg25, arg26, arg27, arg28⟩

/-- The run of the body at this grid point. -/
abbrev theRun :=
  kernelRun0_A (F := F) c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28
    harg28 x0 x1 x2 x3 x4 x5 x6 x7 x8 x9 x10
attribute [local irreducible] shapeCast concatenate broadcastTo transpose extractStridedSlice View.readCov View.readAt

theorem run_dq :
    (kernelRun0_A (F := F) c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28
    harg28 x0 x1 x2 x3 x4 x5 x6 x7 x8 x9 x10).1 =
    dqList (theLoads i arg2 harg2 arg3 harg3 arg4 harg4 arg5 harg5 arg6 harg6 arg7 harg7 arg8 harg8 arg9 harg9 arg10 harg10 arg11
    harg11 arg12 harg12 x0 x1 x2 x3 x4 x5 x6 x7 x8 x9 x10)
      ⟨arg19, arg20, arg21, arg22, arg23, arg24, arg25, arg26, arg27, arg28⟩ := by
  simp only [kernelRun0_A, HS0_1, HS0_2, HS0_3, HS0_4, HS0_5, HS0_6, HS0_7, HS0_8, HS0_9, HS0_10, HS0_11, HS0_12, HS0_13, HS0_14, HS0_15,
    HS0_16, HS0_17, HS0_18, HS0_19, HS0_20, HS0_21, HS0_22, HS0_23, HS0_24, HS0_25, HS0_26, HS0_27, HS0_28,
    HS0_29, HS0_30, r_17, r_18, r_19, r_34, r_51, r_68, r_69, r_86, r_102, r_122, r_136, r_137, r_138, r_154,
    r_172, r_188, r_189, r_190, r_205, r_222, r_241, r_242, r_244, r_245, r_246, r_247, r_248, r_249, r_250,
    r_251, r_252, r_253, r_254, r_255, r_256, r_257, r_259, r_260, r_261, r_262, r_264, r_266, r_268, r_269,
    r_270, r_271, r_272, r_273, r_274, r_275, r_276, r_277, r_278, r_279, r_280, r_281, r_282, r_284, r_286,
    r_287, r_288, r_289, r_291, r_292, r_293, r_294, r_295, r_296, r_297, r_298, r_299, r_300, r_301, r_302,
    r_304, r_305, r_306, r_308, r_309, r_310, r_311, r_312, r_313, r_314, r_315, r_316, r_317, r_318, r_319,
    r_320, r_321, r_323, r_324, r_325, r_326, r_328, r_330, r_332, r_333, r_334, v204, v227, v322, v345, v440,
    v463, v558, v581, v676, v699, v794, v817, v912, v935, v1030, v1053, v1148, v1171, v1266, v1289, v1384, v1407,
    v1502, v1525, v1620, v1643, v1738, v1761, v1787, v1808, v1809, v1810, v1812, v1814, v1820, v1832, v1834,
    v1847, v1890, v1891, v1892, v1894, v1896, v1902, v1914, v1916, v1929, v1964, v1965, v1966, v1968, v1970,
    v1976, v1988, v1990, v2003, v2038, v2039, v2040, v2042, v2044, v2050, v2062, v2064, v2077, v2112, v2113,
    v2114, v2116, v2118, v2124, v2136, v2138, v2151, v2186, v2187, v2188, v2190, v2192, v2198, v2210, v2212,
    v2225, v2260, v2261, v2262, v2264, v2266, v2272, v2284, v2286, v2299, v2334, v2335, v2336, v2338, v2340,
    v2346, v2358, v2360, v2373, v2408, v2409, v2410, v2412, v2414, v2420, v2432, v2434, v2447, v2482, v2483,
    v2484, v2486, v2488, v2494, v2506, v2508, v2521, v2556, v2557, v2558, v2560, v2562, v2568, v2580, v2582,
    v2595, v2630, v2631, v2632, v2634, v2636, v2642, v2654, v2656, v2669, v2704, v2705, v2706, v2708, v2710,
    v2716, v2728, v2730, v2743, v2778, v2779, v2780, v2782, v2784, v2790, v2802, v2804, v2817, v2837,
    View.readCov_cons_toLoadRect]
  rfl

end Cert.KernelIdeal.Chunk
-- ==== Proof.Bridge_dk.lean ====
/-
  The kernel's run in the vocabulary of `Chunk`: what each output window is written.
-/
module

public import proofs.«01_k».proof.Proof.Gen.KernelIdeal.Frame.RunA
public import proofs.«01_k».proof.Proof.Bridge_dq

@[expose] public section

set_option maxRecDepth 16384

set_option maxHeartbeats 0
noncomputable section

namespace Cert.KernelIdeal.Chunk

open Cert.KernelIdeal.Gen.kernelRun0_A.sl
open Idealize.ShloMosaic Idealize.ShloMosaic.TcCoe Cert.KernelIdeal Cert.KernelIdeal.Gen

variable {F : FTy → Type} [FloatOps F]
variable (c : Dev nD) (i : grid0.Coords)
  (arg2 : Memref sig .tc .smem S5x2x14 .f32) (harg2 : arg2.IsWhole)
  (arg3 : Memref sig .tc .smem S5x2x14 .f32) (harg3 : arg3.IsWhole)
  (arg4 : Memref sig .tc .smem S5x2x14 .f32) (harg4 : arg4.IsWhole)
  (arg5 : Memref sig .tc .vmem S1x1x896x256 .fp8e4m3) (harg5 : arg5.IsWhole)
  (arg6 : Memref sig .tc .vmem S1x1x896x256 .fp8e4m3) (harg6 : arg6.IsWhole)
  (arg7 : Memref sig .tc .vmem S1x1x896x512 .fp8e4m3) (harg7 : arg7.IsWhole)
  (arg8 : Memref sig .tc .vmem S1x1x896x512 .fp8e5m2) (harg8 : arg8.IsWhole)
  (arg9 : Memref sig .tc .vmem S5x2x896 .f32) (harg9 : arg9.IsWhole)
  (arg10 : Memref sig .tc .vmem S1x1x896x256 .f32) (harg10 : arg10.IsWhole)
  (arg11 : Memref sig .tc .vmem S1x1x256x512 .f32) (harg11 : arg11.IsWhole)
  (arg12 : Memref sig .tc .vmem S1x1x256x512 .f32) (harg12 : arg12.IsWhole)
  (arg13 : Memref sig .tc .vmem S1x1x896x256 .bf16) (harg13 : arg13.IsWhole)
  (arg14 : Memref sig .tc .vmem S1x1x896x256 .bf16) (harg14 : arg14.IsWhole)
  (arg15 : Memref sig .tc .vmem S1x1x896x512 .bf16) (harg15 : arg15.IsWhole)
  (arg16 : Memref sig .tc .vmem S1x1x896x256 .f32) (harg16 : arg16.IsWhole)
  (arg17 : Memref sig .tc .vmem S1x1x896x256 .f32) (harg17 : arg17.IsWhole)
  (arg18 : Memref sig .tc .vmem S1x1x256x512 .f32) (harg18 : arg18.IsWhole)
  (arg19 : Memref sig .tc .vmem S512x256 .f32) (harg19 : arg19.IsWhole)
  (arg20 : Memref sig .tc .vmem S896x256 .bf16) (harg20 : arg20.IsWhole)
  (arg21 : Memref sig .tc .vmem S896x256 .bf16) (harg21 : arg21.IsWhole)
  (arg22 : Memref sig .tc .vmem S896x256 .f32) (harg22 : arg22.IsWhole)
  (arg23 : Memref sig .tc .vmem S896x256 .f32) (harg23 : arg23.IsWhole)
  (arg24 : Memref sig .tc .vmem S896x256 .f32) (harg24 : arg24.IsWhole)
  (arg25 : Memref sig .tc .vmem S14x256 .f32) (harg25 : arg25.IsWhole)
  (arg26 : Memref sig .tc .vmem S14x64x64 .bf16) (harg26 : arg26.IsWhole)
  (arg27 : Memref sig .tc .vmem S14x64x64 .bf16) (harg27 : arg27.IsWhole)
  (arg28 : Memref sig .tc .vmem S896x128 .f32) (harg28 : arg28.IsWhole)
  (x0 x1 x2 : Vec F S5x2x14 .f32) (x3 x4 : Vec F S1x1x896x256 .fp8e4m3) (x5 : Vec F S1x1x896x512 .fp8e4m3)
  (x6 : Vec F S1x1x896x512 .fp8e5m2) (x7 : Vec F S5x2x896 .f32) (x8 : Vec F S1x1x896x256 .f32)
  (x9 x10 : Vec F S1x1x256x512 .f32)

attribute [local irreducible] shapeCast concatenate broadcastTo transpose extractStridedSlice View.readCov View.readAt

theorem run_dk :
    (kernelRun0_A (F := F) c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28
    harg28 x0 x1 x2 x3 x4 x5 x6 x7 x8 x9 x10).2.1 =
    dkList (theLoads i arg2 harg2 arg3 harg3 arg4 harg4 arg5 harg5 arg6 harg6 arg7 harg7 arg8 harg8 arg9 harg9 arg10 harg10 arg11
    harg11 arg12 harg12 x0 x1 x2 x3 x4 x5 x6 x7 x8 x9 x10)
      ⟨arg19, arg20, arg21, arg22, arg23, arg24, arg25, arg26, arg27, arg28⟩ := by
  simp only [kernelRun0_A, HS0_1, HS0_2, HS0_3, HS0_4, HS0_5, HS0_6, HS0_7, HS0_8, HS0_9, HS0_10, HS0_11, HS0_12, HS0_13, HS0_14, HS0_15,
    HS0_16, HS0_17, HS0_18, HS0_19, HS0_20, HS0_21, HS0_22, HS0_23, HS0_24, HS0_25, HS0_26, HS0_27, HS0_28,
    HS0_29, HS0_30, r_17, r_18, r_19, r_34, r_51, r_68, r_69, r_86, r_102, r_122, r_136, r_137, r_138, r_154,
    r_172, r_188, r_189, r_190, r_205, r_222, r_241, r_242, r_244, r_245, r_246, r_247, r_248, r_249, r_250,
    r_251, r_252, r_253, r_254, r_255, r_256, r_257, r_259, r_260, r_261, r_262, r_264, r_266, r_268, r_269,
    r_270, r_271, r_272, r_273, r_274, r_275, r_276, r_277, r_278, r_279, r_280, r_281, r_282, r_284, r_286,
    r_287, r_288, r_289, r_291, r_292, r_293, r_294, r_295, r_296, r_297, r_298, r_299, r_300, r_301, r_302,
    r_304, r_305, r_306, r_308, r_309, r_310, r_311, r_312, r_313, r_314, r_315, r_316, r_317, r_318, r_319,
    r_320, r_321, r_323, r_324, r_325, r_326, r_328, r_330, r_332, r_333, r_334, v204, v227, v322, v345, v440,
    v463, v558, v581, v676, v699, v794, v817, v912, v935, v1030, v1053, v1148, v1171, v1266, v1289, v1384, v1407,
    v1502, v1525, v1620, v1643, v1738, v1761, v1787, v1808, v1809, v1810, v1812, v1814, v1820, v1832, v1834,
    v1847, v1890, v1891, v1892, v1894, v1896, v1902, v1914, v1916, v1929, v1964, v1965, v1966, v1968, v1970,
    v1976, v1988, v1990, v2003, v2038, v2039, v2040, v2042, v2044, v2050, v2062, v2064, v2077, v2112, v2113,
    v2114, v2116, v2118, v2124, v2136, v2138, v2151, v2186, v2187, v2188, v2190, v2192, v2198, v2210, v2212,
    v2225, v2260, v2261, v2262, v2264, v2266, v2272, v2284, v2286, v2299, v2334, v2335, v2336, v2338, v2340,
    v2346, v2358, v2360, v2373, v2408, v2409, v2410, v2412, v2414, v2420, v2432, v2434, v2447, v2482, v2483,
    v2484, v2486, v2488, v2494, v2506, v2508, v2521, v2556, v2557, v2558, v2560, v2562, v2568, v2580, v2582,
    v2595, v2630, v2631, v2632, v2634, v2636, v2642, v2654, v2656, v2669, v2704, v2705, v2706, v2708, v2710,
    v2716, v2728, v2730, v2743, v2778, v2779, v2780, v2782, v2784, v2790, v2802, v2804, v2817, v2837,
    View.readCov_cons_toLoadRect]
  rfl

end Cert.KernelIdeal.Chunk
-- ==== Proof.Bridge_dv.lean ====
/-
  The kernel's run in the vocabulary of `Chunk`: what each output window is written.
-/
module

public import proofs.«01_k».proof.Proof.Gen.KernelIdeal.Frame.RunA
public import proofs.«01_k».proof.Proof.Bridge_dq

@[expose] public section

set_option maxRecDepth 16384

set_option maxHeartbeats 0
noncomputable section

namespace Cert.KernelIdeal.Chunk

open Cert.KernelIdeal.Gen.kernelRun0_A.sl
open Idealize.ShloMosaic Idealize.ShloMosaic.TcCoe Cert.KernelIdeal Cert.KernelIdeal.Gen

variable {F : FTy → Type} [FloatOps F]
variable (c : Dev nD) (i : grid0.Coords)
  (arg2 : Memref sig .tc .smem S5x2x14 .f32) (harg2 : arg2.IsWhole)
  (arg3 : Memref sig .tc .smem S5x2x14 .f32) (harg3 : arg3.IsWhole)
  (arg4 : Memref sig .tc .smem S5x2x14 .f32) (harg4 : arg4.IsWhole)
  (arg5 : Memref sig .tc .vmem S1x1x896x256 .fp8e4m3) (harg5 : arg5.IsWhole)
  (arg6 : Memref sig .tc .vmem S1x1x896x256 .fp8e4m3) (harg6 : arg6.IsWhole)
  (arg7 : Memref sig .tc .vmem S1x1x896x512 .fp8e4m3) (harg7 : arg7.IsWhole)
  (arg8 : Memref sig .tc .vmem S1x1x896x512 .fp8e5m2) (harg8 : arg8.IsWhole)
  (arg9 : Memref sig .tc .vmem S5x2x896 .f32) (harg9 : arg9.IsWhole)
  (arg10 : Memref sig .tc .vmem S1x1x896x256 .f32) (harg10 : arg10.IsWhole)
  (arg11 : Memref sig .tc .vmem S1x1x256x512 .f32) (harg11 : arg11.IsWhole)
  (arg12 : Memref sig .tc .vmem S1x1x256x512 .f32) (harg12 : arg12.IsWhole)
  (arg13 : Memref sig .tc .vmem S1x1x896x256 .bf16) (harg13 : arg13.IsWhole)
  (arg14 : Memref sig .tc .vmem S1x1x896x256 .bf16) (harg14 : arg14.IsWhole)
  (arg15 : Memref sig .tc .vmem S1x1x896x512 .bf16) (harg15 : arg15.IsWhole)
  (arg16 : Memref sig .tc .vmem S1x1x896x256 .f32) (harg16 : arg16.IsWhole)
  (arg17 : Memref sig .tc .vmem S1x1x896x256 .f32) (harg17 : arg17.IsWhole)
  (arg18 : Memref sig .tc .vmem S1x1x256x512 .f32) (harg18 : arg18.IsWhole)
  (arg19 : Memref sig .tc .vmem S512x256 .f32) (harg19 : arg19.IsWhole)
  (arg20 : Memref sig .tc .vmem S896x256 .bf16) (harg20 : arg20.IsWhole)
  (arg21 : Memref sig .tc .vmem S896x256 .bf16) (harg21 : arg21.IsWhole)
  (arg22 : Memref sig .tc .vmem S896x256 .f32) (harg22 : arg22.IsWhole)
  (arg23 : Memref sig .tc .vmem S896x256 .f32) (harg23 : arg23.IsWhole)
  (arg24 : Memref sig .tc .vmem S896x256 .f32) (harg24 : arg24.IsWhole)
  (arg25 : Memref sig .tc .vmem S14x256 .f32) (harg25 : arg25.IsWhole)
  (arg26 : Memref sig .tc .vmem S14x64x64 .bf16) (harg26 : arg26.IsWhole)
  (arg27 : Memref sig .tc .vmem S14x64x64 .bf16) (harg27 : arg27.IsWhole)
  (arg28 : Memref sig .tc .vmem S896x128 .f32) (harg28 : arg28.IsWhole)
  (x0 x1 x2 : Vec F S5x2x14 .f32) (x3 x4 : Vec F S1x1x896x256 .fp8e4m3) (x5 : Vec F S1x1x896x512 .fp8e4m3)
  (x6 : Vec F S1x1x896x512 .fp8e5m2) (x7 : Vec F S5x2x896 .f32) (x8 : Vec F S1x1x896x256 .f32)
  (x9 x10 : Vec F S1x1x256x512 .f32)

attribute [local irreducible] shapeCast concatenate broadcastTo transpose extractStridedSlice View.readCov View.readAt

theorem run_dv :
    (kernelRun0_A (F := F) c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28
    harg28 x0 x1 x2 x3 x4 x5 x6 x7 x8 x9 x10).2.2.1 =
    dvList (theLoads i arg2 harg2 arg3 harg3 arg4 harg4 arg5 harg5 arg6 harg6 arg7 harg7 arg8 harg8 arg9 harg9 arg10 harg10 arg11
    harg11 arg12 harg12 x0 x1 x2 x3 x4 x5 x6 x7 x8 x9 x10)
      ⟨arg19, arg20, arg21, arg22, arg23, arg24, arg25, arg26, arg27, arg28⟩ := by
  simp only [kernelRun0_A, HS0_1, HS0_2, HS0_3, HS0_4, HS0_5, HS0_6, HS0_7, HS0_8, HS0_9, HS0_10, HS0_11, HS0_12, HS0_13, HS0_14, HS0_15,
    HS0_16, HS0_17, HS0_18, HS0_19, HS0_20, HS0_21, HS0_22, HS0_23, HS0_24, HS0_25, HS0_26, HS0_27, HS0_28,
    HS0_29, HS0_30, r_17, r_18, r_19, r_34, r_51, r_68, r_69, r_86, r_102, r_122, r_136, r_137, r_138, r_154,
    r_172, r_188, r_189, r_190, r_205, r_222, r_241, r_242, r_244, r_245, r_246, r_247, r_248, r_249, r_250,
    r_251, r_252, r_253, r_254, r_255, r_256, r_257, r_259, r_260, r_261, r_262, r_264, r_266, r_268, r_269,
    r_270, r_271, r_272, r_273, r_274, r_275, r_276, r_277, r_278, r_279, r_280, r_281, r_282, r_284, r_286,
    r_287, r_288, r_289, r_291, r_292, r_293, r_294, r_295, r_296, r_297, r_298, r_299, r_300, r_301, r_302,
    r_304, r_305, r_306, r_308, r_309, r_310, r_311, r_312, r_313, r_314, r_315, r_316, r_317, r_318, r_319,
    r_320, r_321, r_323, r_324, r_325, r_326, r_328, r_330, r_332, r_333, r_334, v204, v227, v322, v345, v440,
    v463, v558, v581, v676, v699, v794, v817, v912, v935, v1030, v1053, v1148, v1171, v1266, v1289, v1384, v1407,
    v1502, v1525, v1620, v1643, v1738, v1761, v1787, v1808, v1809, v1810, v1812, v1814, v1820, v1832, v1834,
    v1847, v1890, v1891, v1892, v1894, v1896, v1902, v1914, v1916, v1929, v1964, v1965, v1966, v1968, v1970,
    v1976, v1988, v1990, v2003, v2038, v2039, v2040, v2042, v2044, v2050, v2062, v2064, v2077, v2112, v2113,
    v2114, v2116, v2118, v2124, v2136, v2138, v2151, v2186, v2187, v2188, v2190, v2192, v2198, v2210, v2212,
    v2225, v2260, v2261, v2262, v2264, v2266, v2272, v2284, v2286, v2299, v2334, v2335, v2336, v2338, v2340,
    v2346, v2358, v2360, v2373, v2408, v2409, v2410, v2412, v2414, v2420, v2432, v2434, v2447, v2482, v2483,
    v2484, v2486, v2488, v2494, v2506, v2508, v2521, v2556, v2557, v2558, v2560, v2562, v2568, v2580, v2582,
    v2595, v2630, v2631, v2632, v2634, v2636, v2642, v2654, v2656, v2669, v2704, v2705, v2706, v2708, v2710,
    v2716, v2728, v2730, v2743, v2778, v2779, v2780, v2782, v2784, v2790, v2802, v2804, v2817, v2837,
    View.readCov_cons_toLoadRect]
  rfl

end Cert.KernelIdeal.Chunk
-- ==== Proof.Bridge_dh0.lean ====
/-
  The kernel's run in the vocabulary of `Chunk`: what each output window is written.
-/
module

public import proofs.«01_k».proof.Proof.Gen.KernelIdeal.Frame.RunA
public import proofs.«01_k».proof.Proof.Bridge_dq

@[expose] public section

set_option maxRecDepth 16384

set_option maxHeartbeats 0
noncomputable section

namespace Cert.KernelIdeal.Chunk

open Cert.KernelIdeal.Gen.kernelRun0_A.sl
open Idealize.ShloMosaic Idealize.ShloMosaic.TcCoe Cert.KernelIdeal Cert.KernelIdeal.Gen

variable {F : FTy → Type} [FloatOps F]
variable (c : Dev nD) (i : grid0.Coords)
  (arg2 : Memref sig .tc .smem S5x2x14 .f32) (harg2 : arg2.IsWhole)
  (arg3 : Memref sig .tc .smem S5x2x14 .f32) (harg3 : arg3.IsWhole)
  (arg4 : Memref sig .tc .smem S5x2x14 .f32) (harg4 : arg4.IsWhole)
  (arg5 : Memref sig .tc .vmem S1x1x896x256 .fp8e4m3) (harg5 : arg5.IsWhole)
  (arg6 : Memref sig .tc .vmem S1x1x896x256 .fp8e4m3) (harg6 : arg6.IsWhole)
  (arg7 : Memref sig .tc .vmem S1x1x896x512 .fp8e4m3) (harg7 : arg7.IsWhole)
  (arg8 : Memref sig .tc .vmem S1x1x896x512 .fp8e5m2) (harg8 : arg8.IsWhole)
  (arg9 : Memref sig .tc .vmem S5x2x896 .f32) (harg9 : arg9.IsWhole)
  (arg10 : Memref sig .tc .vmem S1x1x896x256 .f32) (harg10 : arg10.IsWhole)
  (arg11 : Memref sig .tc .vmem S1x1x256x512 .f32) (harg11 : arg11.IsWhole)
  (arg12 : Memref sig .tc .vmem S1x1x256x512 .f32) (harg12 : arg12.IsWhole)
  (arg13 : Memref sig .tc .vmem S1x1x896x256 .bf16) (harg13 : arg13.IsWhole)
  (arg14 : Memref sig .tc .vmem S1x1x896x256 .bf16) (harg14 : arg14.IsWhole)
  (arg15 : Memref sig .tc .vmem S1x1x896x512 .bf16) (harg15 : arg15.IsWhole)
  (arg16 : Memref sig .tc .vmem S1x1x896x256 .f32) (harg16 : arg16.IsWhole)
  (arg17 : Memref sig .tc .vmem S1x1x896x256 .f32) (harg17 : arg17.IsWhole)
  (arg18 : Memref sig .tc .vmem S1x1x256x512 .f32) (harg18 : arg18.IsWhole)
  (arg19 : Memref sig .tc .vmem S512x256 .f32) (harg19 : arg19.IsWhole)
  (arg20 : Memref sig .tc .vmem S896x256 .bf16) (harg20 : arg20.IsWhole)
  (arg21 : Memref sig .tc .vmem S896x256 .bf16) (harg21 : arg21.IsWhole)
  (arg22 : Memref sig .tc .vmem S896x256 .f32) (harg22 : arg22.IsWhole)
  (arg23 : Memref sig .tc .vmem S896x256 .f32) (harg23 : arg23.IsWhole)
  (arg24 : Memref sig .tc .vmem S896x256 .f32) (harg24 : arg24.IsWhole)
  (arg25 : Memref sig .tc .vmem S14x256 .f32) (harg25 : arg25.IsWhole)
  (arg26 : Memref sig .tc .vmem S14x64x64 .bf16) (harg26 : arg26.IsWhole)
  (arg27 : Memref sig .tc .vmem S14x64x64 .bf16) (harg27 : arg27.IsWhole)
  (arg28 : Memref sig .tc .vmem S896x128 .f32) (harg28 : arg28.IsWhole)
  (x0 x1 x2 : Vec F S5x2x14 .f32) (x3 x4 : Vec F S1x1x896x256 .fp8e4m3) (x5 : Vec F S1x1x896x512 .fp8e4m3)
  (x6 : Vec F S1x1x896x512 .fp8e5m2) (x7 : Vec F S5x2x896 .f32) (x8 : Vec F S1x1x896x256 .f32)
  (x9 x10 : Vec F S1x1x256x512 .f32)

attribute [local irreducible] shapeCast concatenate broadcastTo transpose extractStridedSlice View.readCov View.readAt

theorem run_dh0 :
    (kernelRun0_A (F := F) c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28
    harg28 x0 x1 x2 x3 x4 x5 x6 x7 x8 x9 x10).2.2.2.2.2.1 =
    dh0List (theLoads i arg2 harg2 arg3 harg3 arg4 harg4 arg5 harg5 arg6 harg6 arg7 harg7 arg8 harg8 arg9 harg9 arg10 harg10 arg11
    harg11 arg12 harg12 x0 x1 x2 x3 x4 x5 x6 x7 x8 x9 x10)
      ⟨arg19, arg20, arg21, arg22, arg23, arg24, arg25, arg26, arg27, arg28⟩ := by
  simp only [kernelRun0_A, HS0_1, HS0_2, HS0_3, HS0_4, HS0_5, HS0_6, HS0_7, HS0_8, HS0_9, HS0_10, HS0_11, HS0_12, HS0_13, HS0_14, HS0_15,
    HS0_16, HS0_17, HS0_18, HS0_19, HS0_20, HS0_21, HS0_22, HS0_23, HS0_24, HS0_25, HS0_26, HS0_27, HS0_28,
    HS0_29, HS0_30, r_17, r_18, r_19, r_34, r_51, r_68, r_69, r_86, r_102, r_122, r_136, r_137, r_138, r_154,
    r_172, r_188, r_189, r_190, r_205, r_222, r_241, r_242, r_244, r_245, r_246, r_247, r_248, r_249, r_250,
    r_251, r_252, r_253, r_254, r_255, r_256, r_257, r_259, r_260, r_261, r_262, r_264, r_266, r_268, r_269,
    r_270, r_271, r_272, r_273, r_274, r_275, r_276, r_277, r_278, r_279, r_280, r_281, r_282, r_284, r_286,
    r_287, r_288, r_289, r_291, r_292, r_293, r_294, r_295, r_296, r_297, r_298, r_299, r_300, r_301, r_302,
    r_304, r_305, r_306, r_308, r_309, r_310, r_311, r_312, r_313, r_314, r_315, r_316, r_317, r_318, r_319,
    r_320, r_321, r_323, r_324, r_325, r_326, r_328, r_330, r_332, r_333, r_334, v204, v227, v322, v345, v440,
    v463, v558, v581, v676, v699, v794, v817, v912, v935, v1030, v1053, v1148, v1171, v1266, v1289, v1384, v1407,
    v1502, v1525, v1620, v1643, v1738, v1761, v1787, v1808, v1809, v1810, v1812, v1814, v1820, v1832, v1834,
    v1847, v1890, v1891, v1892, v1894, v1896, v1902, v1914, v1916, v1929, v1964, v1965, v1966, v1968, v1970,
    v1976, v1988, v1990, v2003, v2038, v2039, v2040, v2042, v2044, v2050, v2062, v2064, v2077, v2112, v2113,
    v2114, v2116, v2118, v2124, v2136, v2138, v2151, v2186, v2187, v2188, v2190, v2192, v2198, v2210, v2212,
    v2225, v2260, v2261, v2262, v2264, v2266, v2272, v2284, v2286, v2299, v2334, v2335, v2336, v2338, v2340,
    v2346, v2358, v2360, v2373, v2408, v2409, v2410, v2412, v2414, v2420, v2432, v2434, v2447, v2482, v2483,
    v2484, v2486, v2488, v2494, v2506, v2508, v2521, v2556, v2557, v2558, v2560, v2562, v2568, v2580, v2582,
    v2595, v2630, v2631, v2632, v2634, v2636, v2642, v2654, v2656, v2669, v2704, v2705, v2706, v2708, v2710,
    v2716, v2728, v2730, v2743, v2778, v2779, v2780, v2782, v2784, v2790, v2802, v2804, v2817, v2837,
    View.readCov_cons_toLoadRect]
  rfl

end Cert.KernelIdeal.Chunk
-- ==== Proof.Out.lean ====
/-
  The kernel's result arrays, read at an index.

  Every grid point is one head; what its body writes is the chunked gradient of that head, so the result arrays
  hold the gradients of all heads.
-/
module

public import proofs.«01_k».proof.Proof.Blocks
public import proofs.«01_k».proof.Proof.Bridge_dq
public import proofs.«01_k».proof.Proof.Bridge_dk
public import proofs.«01_k».proof.Proof.Bridge_dv
public import proofs.«01_k».proof.Proof.Bridge_dh0

@[expose] public section

set_option maxRecDepth 16384

noncomputable section

namespace Cert.KernelIdeal.Chunk

open Idealize.ShloMosaic Idealize.ShloMosaic.TcCoe Idealize.SL.Sem
open Cert.KernelIdeal Cert.KernelIdeal.Gen Cert.KernelIdeal.Value Cert.Gla

variable (m : (ℓ : Loc nD τ sig) → Buf (Elt Ideal) ℓ) (c : Dev nD)

/-- The inputs of a head, from the launch. -/
def argHead (b : Fin 2) (h : Fin 5) : Head :=
  headOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) b h

/-- The loads of a grid point. -/
abbrev ldsAt (t : Fin cfg0.N) : Loads Ideal :=
  theLoads (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t)

/-- The loads of a grid point are the inputs of its head. -/
theorem head_ldsAt (t : Fin cfg0.N) : head (ldsAt m c t) (bOf t) = argHead m c (bOf t) (hOf t) := by
  refine (Head.mk.injEq ..).mpr ⟨?_, ?_, ?_, ?_, ?_, ?_, ?_, ?_, ?_, ?_, ?_, rfl⟩
  · funext n i d; exact (read_blk256 _ _ _ n i d).trans (iblk_q m c t _ d)
  · funext n i d; exact (read_blk256 _ _ _ n i d).trans (iblk_k m c t _ d)
  · funext n i d; exact (read_blk256 _ _ _ n i d).trans (iblk_g m c t _ d)
  · funext n i d; exact (read_blk512 _ _ _ n i d).trans (iblk_v m c t _ d)
  · funext n i d; exact (read_blk512 _ _ _ n i d).trans (iblk_o m c t _ d)
  · funext n; exact (read_boxS _ _ _ _ n).trans (iblk_qs m c t _ _ n)
  · funext n; exact (read_boxS _ _ _ _ n).trans (iblk_ks m c t _ _ n)
  · funext n; exact (read_boxS _ _ _ _ n).trans (iblk_vs m c t _ _ n)
  · funext n i
    refine ((read_boxD _ _ _ _ _ _ _).trans (iblk_os m c t _ _ _)).trans (congrArg _ ?_)
    refine congrArg (fun r => ix3 (bOf t) r (hOf t)) (Fin.ext ?_)
    show 128 * (n.val / 2) + (64 * (n.val % 2) + i.val) = n.val * 64 + i.val
    omega
  · funext d v; exact (read_state _ _ _ d v).trans (iblk_h0 m c t d v)
  · funext d v; exact (read_state _ _ _ d v).trans (iblk_hf m c t d v)

/-- A quantity of a chunk's row, at a token. -/
def atTok {α : Type} (f : Fin 14 → Fin 64 → α) (r : Fin 896) : α :=
  f ⟨r.val / 64, by omega⟩ ⟨r.val % 64, Nat.mod_lt _ (by decide)⟩

theorem atTok_mk {α : Type} (f : Fin 14 → Fin 64 → α) (n : Fin 14) (i : Fin 64) (h : n.val * 64 + i.val < 896) :
    atTok f ⟨n.val * 64 + i.val, h⟩ = f n i := by
  have h1 : (⟨(n.val * 64 + i.val) / 64, by omega⟩ : Fin 14) = n := Fin.ext (by show (n.val * 64 + i.val) / 64 = n.val; omega)
  have h2 : (⟨(n.val * 64 + i.val) % 64, by omega⟩ : Fin 64) = i := Fin.ext (by show (n.val * 64 + i.val) % 64 = i.val; omega)
  exact congr (congrArg f h1) h2

theorem exists_tok (r : Fin 896) : ∃ (n : Fin 14) (i : Fin 64) (h : n.val * 64 + i.val < 896), r = ⟨n.val * 64 + i.val, h⟩ :=
  ⟨⟨r.val / 64, by omega⟩, ⟨r.val % 64, Nat.mod_lt _ (by decide)⟩, by show r.val / 64 * 64 + r.val % 64 < 896; omega,
    Fin.ext (by show r.val = r.val / 64 * 64 + r.val % 64; omega)⟩

theorem emb256 (n : Fin 14) (i : Fin 64) (d : Fin 256) (h : n.val * 64 + i.val < 896) :
    (blk256 n).emb (ix4 0 0 i d) = ix4 0 0 ⟨n.val * 64 + i.val, h⟩ d := by
  blk_ext! [blk256]

theorem emb512 (n : Fin 14) (i : Fin 64) (d : Fin 512) (h : n.val * 64 + i.val < 896) :
    (blk512 n).emb (ix4 0 0 i d) = ix4 0 0 ⟨n.val * 64 + i.val, h⟩ d := by
  blk_ext! [blk512]

theorem idx_11 : ∀ t : Fin cfg0.N, win0_11.index t = ![(grid0.coords t 0).val, (grid0.coords t 1).val, 0, 0] := by
  decide +kernel
theorem idx_12 : ∀ t : Fin cfg0.N, win0_12.index t = ![(grid0.coords t 0).val, (grid0.coords t 1).val, 0, 0] := by
  decide +kernel
theorem idx_13 : ∀ t : Fin cfg0.N, win0_13.index t = ![(grid0.coords t 0).val, (grid0.coords t 1).val, 0, 0] := by
  decide +kernel
theorem idx_16 : ∀ t : Fin cfg0.N, win0_16.index t = ![(grid0.coords t 0).val, (grid0.coords t 1).val, 0, 0] := by
  decide +kernel

theorem place_11 (t : Fin cfg0.N) (r : Fin 896) (d : Fin 256) : ((cfg0.win 11).blk t).view.emb (ix4 0 0 r d) = ix4 (bOf t) (hOf t) r d := by
  blk_ext! [idx_11 t, bOf, hOf]
theorem place_12 (t : Fin cfg0.N) (r : Fin 896) (d : Fin 256) : ((cfg0.win 12).blk t).view.emb (ix4 0 0 r d) = ix4 (bOf t) (hOf t) r d := by
  blk_ext! [idx_12 t, bOf, hOf]
theorem place_13 (t : Fin cfg0.N) (r : Fin 896) (d : Fin 512) : ((cfg0.win 13).blk t).view.emb (ix4 0 0 r d) = ix4 (bOf t) (hOf t) r d := by
  blk_ext! [idx_13 t, bOf, hOf]
theorem place_16 (t : Fin cfg0.N) (r : Fin 256) (d : Fin 512) : ((cfg0.win 16).blk t).view.emb (ix4 0 0 r d) = ix4 (bOf t) (hOf t) r d := by
  blk_ext! [idx_16 t, bOf, hOf]

/-! ### What the stores of a grid point leave, at an index -/

section
variable (L : Loads Ideal) (M : Bufs) (b : Fin 2)
  (hg : ∀ n i d, (head L b).g n i d ≠ ⊤) (hb : L.pid = BitVec.ofNat 32 b.val)
include hg hb

theorem canon_dq (hv : ∀ n, 0 ≤ (head L b).vs n ∧ (head L b).vs n ≠ ⊤) (n : Fin 14) (i : Fin 64) (d : Fin 256) :
    View.canon (dqList L M) ((blk256 n).emb (ix4 0 0 i d)) = (head L b).dq n i d := by
  unfold dqList
  rw [canon_rev (e := .bf16) blk256 (fun k => k0_pay41 (seb L k) (kg L k) (dosb L M k) (att L M k) (dqI L k))
    blk256_disj n (ix4 0 0 i d)]
  exact dqPiece_apply L M b hg hv hb n i d

theorem canon_dk (n : Fin 14) (i : Fin 64) (d : Fin 256) :
    View.canon (dkList L M) ((blk256 n).emb (ix4 0 0 i d)) = (head L b).dk n i d := by
  unfold dkList
  rw [View.canon_ofFn_emb_of_disjoint (Val := Elt Ideal) (e := .bf16) blk256 (fun k => k0_pay427 (truncf .bf16 (dk L M (13 - k.val)) bitsLt_bf16_f32))
    blk256_disj n (ix4 0 0 i d)]
  exact dkPiece_apply L M b hg hb n i d

theorem canon_dv (n : Fin 14) (i : Fin 64) (d : Fin 512) :
    View.canon (dvList L M) ((blk512 n).emb (ix4 0 0 i d)) = (head L b).dv n i d := by
  unfold dvList
  rw [View.canon_ofFn_emb_of_disjoint (Val := Elt Ideal) (e := .bf16) blk512 (fun k => k0_pay424 (dod L M k) (kdR L M k) (pR L M k) (tt L M (13 - k.val)))
    blk512_disj n (ix4 0 0 i d)]
  exact dvPiece_apply L M b hg hb n i d

theorem canon_dh0 (d : Fin 256) (v : Fin 512) : View.canon (dh0List L M) (ix4 0 0 d v) = (head L b).T 14 d v := by
  unfold dh0List
  rw [View.canon_unit_zero (by funext a; fin_cases a <;> rfl)]
  exact dh0Piece_apply L M b hg hb d v

end

section
variable (hg : ∀ b h n i d, (argHead m c b h).g n i d ≠ ⊤)
include hg

theorem reg_dq (hv : ∀ b h n, 0 ≤ (argHead m c b h).vs n ∧ (argHead m c b h).vs n ≠ ⊤) :
    reg_main_v9_0 m c = fun j : S2x5x896x256.Idx => atTok (argHead m c (j 0) (j 1)).dq (j 2) (j 3) := by
  unfold reg_main_v9_0
  refine (dats m 0 c).arrAt_eq_of_covers 11 _ (by decide +kernel) fun t hf y => ?_
  obtain ⟨x0, x1, r, d, rfl⟩ : ∃ x0 x1 r d, y = (ix4 x0 x1 r d : S1x1x896x256.Idx) := ⟨y 0, y 1, y 2, y 3, eq_ix4 y⟩
  obtain rfl : x0 = 0 := Subsingleton.elim _ _
  obtain rfl : x1 = 0 := Subsingleton.elim _ _
  obtain ⟨n, i, h, rfl⟩ := exists_tok r
  rw [place_11]
  show _ = atTok (argHead m c (bOf t) (hOf t)).dq ⟨n.val * 64 + i.val, h⟩ d
  rw [atTok_mk]
  blk_simp
  rw [after0_11]
  unfold outsAt0 out0_A_11
  dsimp only
  rw [View.read_writes_junk_eq_canon, run_dq, ← emb256 n i d h]
  refine (canon_dq (ldsAt m c t) _ (bOf t) ?_ rfl ?_ n i d).trans ?_
  all_goals rw [head_ldsAt]
  · exact hg _ _
  · exact hv _ _

theorem reg_dk : reg_main_v9_1 m c = fun j : S2x5x896x256.Idx => atTok (argHead m c (j 0) (j 1)).dk (j 2) (j 3) := by
  unfold reg_main_v9_1
  refine (dats m 0 c).arrAt_eq_of_covers 12 _ (by decide +kernel) fun t hf y => ?_
  obtain ⟨x0, x1, r, d, rfl⟩ : ∃ x0 x1 r d, y = (ix4 x0 x1 r d : S1x1x896x256.Idx) := ⟨y 0, y 1, y 2, y 3, eq_ix4 y⟩
  obtain rfl : x0 = 0 := Subsingleton.elim _ _
  obtain rfl : x1 = 0 := Subsingleton.elim _ _
  obtain ⟨n, i, h, rfl⟩ := exists_tok r
  rw [place_12]
  show _ = atTok (argHead m c (bOf t) (hOf t)).dk ⟨n.val * 64 + i.val, h⟩ d
  rw [atTok_mk]
  blk_simp
  rw [after0_12]
  unfold outsAt0 out0_A_12
  dsimp only
  rw [View.read_writes_junk_eq_canon, run_dk, ← emb256 n i d h]
  refine (canon_dk (ldsAt m c t) _ (bOf t) ?_ rfl n i d).trans ?_
  all_goals rw [head_ldsAt]
  exact hg _ _

theorem reg_dv : reg_main_v9_2 m c = fun j : S2x5x896x512.Idx => atTok (argHead m c (j 0) (j 1)).dv (j 2) (j 3) := by
  unfold reg_main_v9_2
  refine (dats m 0 c).arrAt_eq_of_covers 13 _ (by decide +kernel) fun t hf y => ?_
  obtain ⟨x0, x1, r, d, rfl⟩ : ∃ x0 x1 r d, y = (ix4 x0 x1 r d : S1x1x896x512.Idx) := ⟨y 0, y 1, y 2, y 3, eq_ix4 y⟩
  obtain rfl : x0 = 0 := Subsingleton.elim _ _
  obtain rfl : x1 = 0 := Subsingleton.elim _ _
  obtain ⟨n, i, h, rfl⟩ := exists_tok r
  rw [place_13]
  show _ = atTok (argHead m c (bOf t) (hOf t)).dv ⟨n.val * 64 + i.val, h⟩ d
  rw [atTok_mk]
  blk_simp
  rw [after0_13]
  unfold outsAt0 out0_A_13
  dsimp only
  rw [View.read_writes_junk_eq_canon, run_dv, ← emb512 n i d h]
  refine (canon_dv (ldsAt m c t) _ (bOf t) ?_ rfl n i d).trans ?_
  all_goals rw [head_ldsAt]
  exact hg _ _

theorem reg_dh0 : reg_main_v9_5 m c = fun j : S2x5x256x512.Idx => (argHead m c (j 0) (j 1)).T 14 (j 2) (j 3) := by
  unfold reg_main_v9_5
  refine (dats m 0 c).arrAt_eq_of_covers 16 _ (by decide +kernel) fun t hf y => ?_
  obtain ⟨x0, x1, d, v, rfl⟩ : ∃ x0 x1 d v, y = (ix4 x0 x1 d v : S1x1x256x512.Idx) := ⟨y 0, y 1, y 2, y 3, eq_ix4 y⟩
  obtain rfl : x0 = 0 := Subsingleton.elim _ _
  obtain rfl : x1 = 0 := Subsingleton.elim _ _
  rw [place_16]
  show _ = (argHead m c (bOf t) (hOf t)).T 14 d v
  blk_simp
  rw [after0_16]
  unfold outsAt0 out0_A_16
  dsimp only
  rw [View.read_writes_junk_eq_canon, run_dh0]
  refine (canon_dh0 (ldsAt m c t) _ (bOf t) ?_ rfl d v).trans ?_
  all_goals rw [head_ldsAt]
  exact hg _ _
end

end Cert.KernelIdeal.Chunk
-- ==== Proof.Ref.lean ====
/-
  The reference's host operations, read at an index over the extended reals: each named intermediate array
  at chunk `n`, batch entry `b` and head `h` is the intermediate value of that head's mathematics.
-/
module

public import proofs.«01_k».proof.Proof.Gen.ReferenceIdeal.Run
public import proofs.«01_k».proof.Proof.Gla
public import Idealize.ShloMosaic.Lib.Pointwise

@[expose] public section

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value Cert.Gla

variable (V : Valuation τ sig (Elt Ideal))

/-- The inputs of the head `h` of batch entry `b`. -/
def head (b : Fin 2) (h : Fin 5) : Head where
  q n i d := V (Proc.devRef .tc main_v4_0) (ix2 ⟨b.val * 896 + n.val * 64 + i.val, by omega⟩ ⟨h.val * 256 + d.val, by omega⟩)
  k n i d := V (Proc.devRef .tc main_v4_1) (ix2 ⟨b.val * 896 + n.val * 64 + i.val, by omega⟩ ⟨h.val * 256 + d.val, by omega⟩)
  g n i d := V (Proc.devRef .tc main_arg8) (ix4 b ⟨n.val * 64 + i.val, by omega⟩ h d)
  v n i d := V (Proc.devRef .tc main_v4_2) (ix2 ⟨b.val * 896 + n.val * 64 + i.val, by omega⟩ ⟨h.val * 512 + d.val, by omega⟩)
  o n i d := V (Proc.devRef .tc main_v4_3) (ix2 ⟨b.val * 896 + n.val * 64 + i.val, by omega⟩ ⟨h.val * 512 + d.val, by omega⟩)
  qs n := V (Proc.devRef .tc main_arg2) (ix3 b n h)
  ks n := V (Proc.devRef .tc main_arg3) (ix3 b n h)
  vs n := V (Proc.devRef .tc main_arg5) (ix3 b n h)
  os n i := V (Proc.devRef .tc main_arg7) (ix3 b ⟨n.val * 64 + i.val, by omega⟩ h)
  h0 d v := V (Proc.devRef .tc main_arg9) (ix4 b h d v)
  hf d v := V (Proc.devRef .tc main_arg10) (ix4 b h d v)
  sc := (Scalar.ofBits .f32 0x3D800000#32 : Ideal .f32)

variable (n : Fin 14) (b : Fin 2) (h : Fin 5)

theorem k_apply (i : Fin 64) (d : Fin 256) : res_main_v18 V (ix5 n b h i d) = (head V b h).kr n i d := by
  pointwise [res_main_v18]
  rfl

theorem v_apply (i : Fin 64) (d : Fin 512) : res_main_v40 V (ix5 n b h i d) = (head V b h).v n i d := by
  pointwise [res_main_v40]
  rfl

theorem o_apply (i : Fin 64) (d : Fin 512) : res_main_v42 V (ix5 n b h i d) = (head V b h).o n i d := by
  pointwise [res_main_v42]
  rfl

theorem os_apply (i : Fin 64) : res_main_v44 V (ix4 n b h i) = (head V b h).os n i := by
  pointwise [res_main_v44]
  rfl

theorem vs_apply : res_main_v10 V (ix5 n b h 0 0) = (head V b h).vs n := by
  pointwise [res_main_v10]
  rfl

/-- A left fold of additions is the sum. -/
theorem foldl_add {ι : Type} (l : List ι) (f : ι → EReal) (a : EReal) :
    l.foldl (fun r n => r + f n) a = a + (l.map f).sum := by
  induction l generalizing a with
  | nil => simp
  | cons x l ih => rw [List.foldl_cons, ih, List.map_cons, List.sum_cons, add_assoc]

/-- The positions of the window over the rows of a chunk. -/
def winEquiv : Fin 64 ≃ (⟨5, ![1, 1, 1, 64, 1]⟩ : Shape).Idx where
  toFun k := ix5 (0 : Fin 1) (0 : Fin 1) (0 : Fin 1) k (0 : Fin 1)
  invFun y := y 3
  left_inv _ := rfl
  right_inv y := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

/-- One position `w` of the window that ends at the place `j`: an entry of the array, or the padding `z`. -/
def winTerm (x : S14x2x5x64x256.Idx → EReal) (z : EReal) (j : S14x2x5x64x256.Idx)
    (w : (⟨5, ![1, 1, 1, 64, 1]⟩ : Shape).Idx) : EReal :=
  if hin : ∀ a, (![0, 0, 0, 63, 0] : Fin 5 → ℕ) a ≤ (j a).val * (![1, 1, 1, 1, 1] : Fin 5 → ℕ) a + (w a).val
      ∧ (j a).val * (![1, 1, 1, 1, 1] : Fin 5 → ℕ) a + (w a).val - (![0, 0, 0, 63, 0] : Fin 5 → ℕ) a < S14x2x5x64x256.size a
    then x (fun a => ⟨(j a).val * (![1, 1, 1, 1, 1] : Fin 5 → ℕ) a + (w a).val - (![0, 0, 0, 63, 0] : Fin 5 → ℕ) a, (hin a).2⟩)
    else z

/-- The sum over the window that ends at row `i` of a chunk is the sum over the rows up to `i`. -/
theorem cumsum_apply (x : S14x2x5x64x256.Idx → EReal) (init : S_.Idx → EReal)
    (hw : S14x2x5x64x256.ReduceWindows ![1, 1, 1, 64, 1] ![1, 1, 1, 1, 1] ![0, 0, 0, 63, 0] ![0, 0, 0, 0, 0] S14x2x5x64x256)
    (hu : 0 < S_.numel) (h0 : init (Shape.Idx.first hu) = 0) (n : Fin 14) (b : Fin 2) (h : Fin 5) (i : Fin 64) (d : Fin 256) :
    Host.reduceWindowAdd (F := Ideal) (φ := .f32) ![1, 1, 1, 64, 1] ![1, 1, 1, 1, 1] ![0, 0, 0, 63, 0] ![0, 0, 0, 0, 0] x init hw hu
        (ix5 n b h i d) = ∑ j : Fin 64, if j ≤ i then x (ix5 n b h j d) else 0 := by
  change Host.reduceWindow (· + ·) _ _ _ _ x (fun _ : (⟨0, ![]⟩ : Shape).Idx => init (Shape.Idx.first hu)) hw (by decide) (ix5 n b h i d) = _
  unfold Host.reduceWindow
  dsimp only
  rw [foldl_add, h0, zero_add, ← Fin.sum_univ_def]
  refine (Finset.sum_congr rfl (g := fun q => winTerm x 0 (ix5 n b h i d)
    ((⟨5, ![1, 1, 1, 64, 1]⟩ : Shape).rowMajor.symm q)) fun q _ => ?_).trans ?_
  · unfold winTerm
    split
    · next hin =>
      split
      · rfl
      · next hout => exact absurd hin hout
    · next hin =>
      split
      · next hout => exact absurd hout hin
      · rfl
  rw [Equiv.sum_comp (⟨5, ![1, 1, 1, 64, 1]⟩ : Shape).rowMajor.symm (winTerm x 0 (ix5 n b h i d)),
    ← Equiv.sum_comp winEquiv]
  refine Fintype.sum_equiv (Equiv.addRight (i + 1)) _ _ fun k => ?_
  unfold winTerm
  have hk := k.isLt
  have hi := i.isLt
  have hj : (Equiv.addRight (i + 1) k).val = if 63 ≤ i.val + k.val then i.val + k.val - 63 else i.val + k.val + 1 := by
    show (k + (i + 1)).val = _
    rw [Fin.val_add, Fin.val_add]
    show (k.val + (i.val + 1) % 64) % 64 = _
    split <;> omega
  generalize Equiv.addRight (i + 1) k = j at hj
  have hjl := j.isLt
  split
  · next hin =>
    have h3 := hin 3
    change 63 ≤ i.val * 1 + k.val ∧ i.val * 1 + k.val - 63 < 64 at h3
    rw [if_pos (by omega)] at hj
    rw [if_pos (show j ≤ i from Fin.le_def.2 (by omega))]
    refine congrArg x (funext fun a => Fin.ext ?_)
    match a with
    | ⟨0, _⟩ => show n.val * 1 + 0 - 0 = n.val; omega
    | ⟨1, _⟩ => show b.val * 1 + 0 - 0 = b.val; omega
    | ⟨2, _⟩ => show h.val * 1 + 0 - 0 = h.val; omega
    | ⟨3, _⟩ => show i.val * 1 + k.val - 63 = j.val; omega
    | ⟨4, _⟩ => show d.val * 1 + 0 - 0 = d.val; omega
  · next hin =>
    have hc : ¬ 63 ≤ i.val + k.val := fun hle => hin fun a => by
      match a with
      | ⟨0, _⟩ => show 0 ≤ n.val * 1 + 0 ∧ n.val * 1 + 0 - 0 < 14; omega
      | ⟨1, _⟩ => show 0 ≤ b.val * 1 + 0 ∧ b.val * 1 + 0 - 0 < 2; omega
      | ⟨2, _⟩ => show 0 ≤ h.val * 1 + 0 ∧ h.val * 1 + 0 - 0 < 5; omega
      | ⟨3, _⟩ => show 63 ≤ i.val * 1 + k.val ∧ i.val * 1 + k.val - 63 < 64; omega
      | ⟨4, _⟩ => show 0 ≤ d.val * 1 + 0 ∧ d.val * 1 + 0 - 0 < 256; omega
    rw [if_neg hc] at hj
    rw [if_neg (show ¬ j ≤ i from fun hle => by have := Fin.le_def.1 hle; omega)]

theorem B_apply (i : Fin 64) (d : Fin 256) : res_main_v21 V (ix5 n b h i d) = (head V b h).B n i d := by
  unfold res_main_v21
  refine (cumsum_apply _ _ _ _ ?_ n b h i d).trans ?_
  · pointwise
  · refine Finset.sum_congr rfl fun j _ => congrArg (fun x => if j ≤ i then x else (0 : EReal)) ?_
    pointwise
    rfl

theorem G_apply (d : Fin 256) : res_main_v23 V (ix4 n b h d) = (head V b h).G n d := by
  pointwise [res_main_v23]
  exact B_apply V n b h 63 d

theorem eB_apply (i : Fin 64) (d : Fin 256) : res_main_v24 V (ix5 n b h i d) = (head V b h).eB n i d := by
  pointwise [res_main_v24]
  rw [B_apply]
  rfl

theorem enB_apply (i : Fin 64) (d : Fin 256) : res_main_v26 V (ix5 n b h i d) = (head V b h).enB n i d := by
  pointwise [res_main_v26]
  rw [B_apply]
  rfl

theorem eGB_apply (i : Fin 64) (d : Fin 256) : res_main_v30 V (ix5 n b h i d) = (head V b h).eGB n i d := by
  pointwise [res_main_v30]
  rw [B_apply, G_apply]
  rfl

theorem qg_apply (i : Fin 64) (d : Fin 256) : res_main_v34 V (ix5 n b h i d) = (head V b h).qg n i d := by
  pointwise [res_main_v34]
  rw [eB_apply]
  rfl

theorem kg_apply (i : Fin 64) (d : Fin 256) : res_main_v36 V (ix5 n b h i d) = (head V b h).kg n i d := by
  pointwise [res_main_v36]
  rw [k_apply, enB_apply]
  rfl

theorem kd_apply (i : Fin 64) (d : Fin 256) : res_main_v38 V (ix5 n b h i d) = (head V b h).kd n i d := by
  pointwise [res_main_v38]
  rw [k_apply, eGB_apply]
  rfl

theorem od_apply (i : Fin 64) (d : Fin 512) : res_main_v48 V (ix5 n b h i d) = (head V b h).od n i d := by
  pointwise [res_main_v48]
  rw [o_apply, os_apply]
  rfl

theorem select_tril (i j : Fin 64) (x y : EReal) :
    Scalar.select (res_main_v50 V (ix2 i j)) x y = if j ≤ i then x else y := by
  have h : ∀ i j : Fin 64, Scalar.select (IntOp.cmpi CmpIPredicate.sge (IntOp.addi (BitVec.ofNat 32 ↑i) 0#32) (BitVec.ofNat 32 ↑j)) 1#1 0#1
      = if j ≤ i then 1#1 else 0#1 := by decide +kernel
  have h2 : res_main_v50 V (ix2 i j) = if j ≤ i then 1#1 else 0#1 := by
    pointwise [res_main_v50]
    exact h i j
  rw [h2]
  by_cases hji : j ≤ i
  · rw [if_pos hji, if_pos hji]; rfl
  · rw [if_neg hji, if_neg hji]; rfl

theorem A_apply (i j : Fin 64) : res_main_v58 V (ix5 n b h i j) = (head V b h).A n i j := by
  pointwise [res_main_v58, id_eq]
  rw [select_tril]
  simp only [o_apply, v_apply, os_apply, vs_apply]
  rfl

theorem dec_apply (d : Fin 256) : res_main_v63 V (ix5 n b h d 0) = (head V b h).dec n d := by
  pointwise [res_main_v63]
  rw [G_apply]
  rfl

theorem U_apply (d : Fin 256) (v : Fin 512) : res_main_v66 V (ix5 n b h d v) = (head V b h).U n d v := by
  pointwise [res_main_v66]
  simp only [kd_apply, v_apply, vs_apply]
  rfl

theorem W_apply (d : Fin 256) (v : Fin 512) : res_main_v195 V (ix5 n b h d v) = (head V b h).W n d v := by
  pointwise [res_main_v195]
  simp only [qg_apply, od_apply]
  rfl

/-- One chunk of a recursion over the chunks: decay what is there, and add the chunk's own part. -/
theorem step (m : ℕ) (hm : m < 14) (hs : S14x2x5x256x1.Slices ![m, 0, 0, 0, 0] S1x2x5x256x1)
    (hs' : S14x2x5x256x512.Slices ![m, 0, 0, 0, 0] S1x2x5x256x512) (X : S2x5x256x512.Idx → EReal)
    (Y : S14x2x5x256x512.Idx → EReal) (d : Fin 256) (v : Fin 512) (x y : EReal) (hx : X (ix4 b h d v) = x)
    (hy : Y (ix5 ⟨m, hm⟩ b h d v) = y) :
    addf (F := Ideal) (φ := .f32) (mulf (broadcastInDim S2x5x256x512 ![0, 1, 2, 3] bcast_S2x5x256x1_S2x5x256x512_0_1_2_3 (shapeCast _ (extractStridedSlice S1x2x5x256x1 ![m, 0, 0, 0, 0] (res_main_v63 V) hs) shapeCasts_S1x2x5x256x1_S2x5x256x1)) X) (shapeCast _ (extractStridedSlice S1x2x5x256x512 ![m, 0, 0, 0, 0] Y hs') shapeCasts_S1x2x5x256x512_S2x5x256x512) (ix4 b h d v)
      = (head V b h).dec ⟨m, hm⟩ d * x + y := by
  pointwise
  rw [dec_apply, hx, hy]

theorem S1 (d : Fin 256) (v : Fin 512) : res_main_v74 V (ix4 b h d v) = (head V b h).S 1 d v :=
  step V b h 0 (by decide) _ _ _ _ d v _ _ rfl (U_apply V 0 b h d v)

theorem S2 (d : Fin 256) (v : Fin 512) : res_main_v82 V (ix4 b h d v) = (head V b h).S 2 d v :=
  step V b h 1 (by decide) _ _ _ _ d v _ _ (S1 V b h d v) (U_apply V 1 b h d v)

theorem S3 (d : Fin 256) (v : Fin 512) : res_main_v90 V (ix4 b h d v) = (head V b h).S 3 d v :=
  step V b h 2 (by decide) _ _ _ _ d v _ _ (S2 V b h d v) (U_apply V 2 b h d v)

theorem S4 (d : Fin 256) (v : Fin 512) : res_main_v98 V (ix4 b h d v) = (head V b h).S 4 d v :=
  step V b h 3 (by decide) _ _ _ _ d v _ _ (S3 V b h d v) (U_apply V 3 b h d v)

theorem S5 (d : Fin 256) (v : Fin 512) : res_main_v106 V (ix4 b h d v) = (head V b h).S 5 d v :=
  step V b h 4 (by decide) _ _ _ _ d v _ _ (S4 V b h d v) (U_apply V 4 b h d v)

theorem S6 (d : Fin 256) (v : Fin 512) : res_main_v114 V (ix4 b h d v) = (head V b h).S 6 d v :=
  step V b h 5 (by decide) _ _ _ _ d v _ _ (S5 V b h d v) (U_apply V 5 b h d v)

theorem S7 (d : Fin 256) (v : Fin 512) : res_main_v122 V (ix4 b h d v) = (head V b h).S 7 d v :=
  step V b h 6 (by decide) _ _ _ _ d v _ _ (S6 V b h d v) (U_apply V 6 b h d v)

theorem S8 (d : Fin 256) (v : Fin 512) : res_main_v130 V (ix4 b h d v) = (head V b h).S 8 d v :=
  step V b h 7 (by decide) _ _ _ _ d v _ _ (S7 V b h d v) (U_apply V 7 b h d v)

theorem S9 (d : Fin 256) (v : Fin 512) : res_main_v138 V (ix4 b h d v) = (head V b h).S 9 d v :=
  step V b h 8 (by decide) _ _ _ _ d v _ _ (S8 V b h d v) (U_apply V 8 b h d v)

theorem S10 (d : Fin 256) (v : Fin 512) : res_main_v146 V (ix4 b h d v) = (head V b h).S 10 d v :=
  step V b h 9 (by decide) _ _ _ _ d v _ _ (S9 V b h d v) (U_apply V 9 b h d v)

theorem S11 (d : Fin 256) (v : Fin 512) : res_main_v154 V (ix4 b h d v) = (head V b h).S 11 d v :=
  step V b h 10 (by decide) _ _ _ _ d v _ _ (S10 V b h d v) (U_apply V 10 b h d v)

theorem S12 (d : Fin 256) (v : Fin 512) : res_main_v162 V (ix4 b h d v) = (head V b h).S 12 d v :=
  step V b h 11 (by decide) _ _ _ _ d v _ _ (S11 V b h d v) (U_apply V 11 b h d v)

theorem S13 (d : Fin 256) (v : Fin 512) : res_main_v170 V (ix4 b h d v) = (head V b h).S 13 d v :=
  step V b h 12 (by decide) _ _ _ _ d v _ _ (S12 V b h d v) (U_apply V 12 b h d v)

theorem T1 (d : Fin 256) (v : Fin 512) : res_main_v203 V (ix4 b h d v) = (head V b h).T 1 d v :=
  step V b h 13 (by decide) _ _ _ _ d v _ _ rfl (W_apply V 13 b h d v)

theorem T2 (d : Fin 256) (v : Fin 512) : res_main_v211 V (ix4 b h d v) = (head V b h).T 2 d v :=
  step V b h 12 (by decide) _ _ _ _ d v _ _ (T1 V b h d v) (W_apply V 12 b h d v)

theorem T3 (d : Fin 256) (v : Fin 512) : res_main_v219 V (ix4 b h d v) = (head V b h).T 3 d v :=
  step V b h 11 (by decide) _ _ _ _ d v _ _ (T2 V b h d v) (W_apply V 11 b h d v)

theorem T4 (d : Fin 256) (v : Fin 512) : res_main_v227 V (ix4 b h d v) = (head V b h).T 4 d v :=
  step V b h 10 (by decide) _ _ _ _ d v _ _ (T3 V b h d v) (W_apply V 10 b h d v)

theorem T5 (d : Fin 256) (v : Fin 512) : res_main_v235 V (ix4 b h d v) = (head V b h).T 5 d v :=
  step V b h 9 (by decide) _ _ _ _ d v _ _ (T4 V b h d v) (W_apply V 9 b h d v)

theorem T6 (d : Fin 256) (v : Fin 512) : res_main_v243 V (ix4 b h d v) = (head V b h).T 6 d v :=
  step V b h 8 (by decide) _ _ _ _ d v _ _ (T5 V b h d v) (W_apply V 8 b h d v)

theorem T7 (d : Fin 256) (v : Fin 512) : res_main_v251 V (ix4 b h d v) = (head V b h).T 7 d v :=
  step V b h 7 (by decide) _ _ _ _ d v _ _ (T6 V b h d v) (W_apply V 7 b h d v)

theorem T8 (d : Fin 256) (v : Fin 512) : res_main_v259 V (ix4 b h d v) = (head V b h).T 8 d v :=
  step V b h 6 (by decide) _ _ _ _ d v _ _ (T7 V b h d v) (W_apply V 6 b h d v)

theorem T9 (d : Fin 256) (v : Fin 512) : res_main_v267 V (ix4 b h d v) = (head V b h).T 9 d v :=
  step V b h 5 (by decide) _ _ _ _ d v _ _ (T8 V b h d v) (W_apply V 5 b h d v)

theorem T10 (d : Fin 256) (v : Fin 512) : res_main_v275 V (ix4 b h d v) = (head V b h).T 10 d v :=
  step V b h 4 (by decide) _ _ _ _ d v _ _ (T9 V b h d v) (W_apply V 4 b h d v)

theorem T11 (d : Fin 256) (v : Fin 512) : res_main_v283 V (ix4 b h d v) = (head V b h).T 11 d v :=
  step V b h 3 (by decide) _ _ _ _ d v _ _ (T10 V b h d v) (W_apply V 3 b h d v)

theorem T12 (d : Fin 256) (v : Fin 512) : res_main_v291 V (ix4 b h d v) = (head V b h).T 12 d v :=
  step V b h 2 (by decide) _ _ _ _ d v _ _ (T11 V b h d v) (W_apply V 2 b h d v)

theorem T13 (d : Fin 256) (v : Fin 512) : res_main_v299 V (ix4 b h d v) = (head V b h).T 13 d v :=
  step V b h 1 (by decide) _ _ _ _ d v _ _ (T12 V b h d v) (W_apply V 1 b h d v)

theorem dS_apply (d : Fin 256) (v : Fin 512) : res_main_v322 V (ix5 n b h d v) = (head V b h).dS n d v := by
  pointwise [res_main_v322]
  unfold Head.dS
  fin_vals n with hn
  all_goals simp only [hn, Nat.reduceSub, Nat.reduceLT, ↓reduceDIte]
  all_goals try simp only [T1, T2, T3, T4, T5, T6, T7, T8, T9, T10, T11, T12, T13]
  all_goals rfl

/-- The gradient of the queries. -/
theorem dq_apply (i : Fin 64) (d : Fin 256) :
    res_main_v343 V (ix4 b ⟨n.val * 64 + i.val, by omega⟩ h d) = (head V b h).dq n i d := by
  pointwise [res_main_v343]
  unfold Head.dq Head.dqI
  rw [eB_apply, os_apply]
  simp only [A_apply, kg_apply, o_apply]
  refine congrArg (fun x => (head V b h).sc * (head V b h).eB n i d * ((head V b h).os n i * x + _)) ?_
  refine Finset.sum_congr rfl fun x _ => congrArg (fun y => (head V b h).o n i x * y) ?_
  fin_vals n with hn
  all_goals simp only [hn, Nat.reduceSub, Nat.reduceLT, ↓reduceDIte]
  all_goals try simp only [S1, S2, S3, S4, S5, S6, S7, S8, S9, S10, S11, S12, S13]
  all_goals rfl

/-- The gradient of the keys. -/
def dkOut {F : FTy → Type} [FloatOps F] (V : Valuation τ sig (Elt F)) :
    (Proc.devRef .tc main_v346 : DevRef τ sig).ty.Contents (Elt F) :=
  shapeCast _ (transpose S2x14x64x5x256 [1, 0, 3, 2, 4] (truncf .bf16 (addf (mulf (res_main_v30 V) (mulf (broadcastInDim S14x2x5x64x256 ![0, 1, 2, 3, 4] bcast_S14x2x5x1x1_S14x2x5x64x256_0_1_2_3_4 (res_main_v10 V)) (Host.dotGeneral dot_S14x2x5x64x512_S14x2x5x256x512_S14x2x5x64x256_4_4_3_3_012_012 none (res_main_v40 V) (res_main_v322 V)))) (mulf (res_main_v26 V) (Host.dotGeneral dot_S14x2x5x64x64_S14x2x5x64x256_S14x2x5x64x256_3_3_4_4_012_012 none (res_main_v58 V) (res_main_v34 V)))) bitsLt_bf16_f32) transposes_S14x2x5x64x256_S2x14x64x5x256_1_0_3_2_4) shapeCasts_S2x14x64x5x256_S2x896x5x256

theorem dk_apply (j : Fin 64) (d : Fin 256) :
    dkOut V (ix4 b ⟨n.val * 64 + j.val, by omega⟩ h d) = (head V b h).dk n j d := by
  pointwise [dkOut]
  simp only [eGB_apply, enB_apply, vs_apply, v_apply, dS_apply, A_apply, qg_apply]
  rfl

/-- The gradient of the values. -/
def dvOut {F : FTy → Type} [FloatOps F] (V : Valuation τ sig (Elt F)) :
    (Proc.devRef .tc main_v349 : DevRef τ sig).ty.Contents (Elt F) :=
  shapeCast _ (transpose S2x14x64x5x512 [1, 0, 3, 2, 4] (truncf .bf16 (addf (Host.dotGeneral dot_S14x2x5x64x256_S14x2x5x256x512_S14x2x5x64x512_4_3_3_4_012_012 none (res_main_v38 V) (res_main_v322 V)) (Host.dotGeneral dot_S14x2x5x64x64_S14x2x5x64x512_S14x2x5x64x512_3_3_4_4_012_012 none (truncf .bf16 (select (broadcastInDim S14x2x5x64x64 ![3, 4] bcast_S64x64_S14x2x5x64x64_3_4 (res_main_v50 V)) (Host.dotGeneral dot_S14x2x5x64x256_S14x2x5x64x256_S14x2x5x64x64_4_4_3_3_012_012 none (res_main_v34 V) (res_main_v36 V)) (broadcastInDim S14x2x5x64x64 ![] bcast_S_S14x2x5x64x64 (id (constant S_ .f32 0x00000000#32)))) bitsLt_bf16_f32) (res_main_v48 V))) bitsLt_bf16_f32) transposes_S14x2x5x64x512_S2x14x64x5x512_1_0_3_2_4) shapeCasts_S2x14x64x5x512_S2x896x5x512

theorem dv_apply (j : Fin 64) (v : Fin 512) :
    dvOut V (ix4 b ⟨n.val * 64 + j.val, by omega⟩ h v) = (head V b h).dv n j v := by
  pointwise [dvOut, id_eq]
  simp only [select_tril, kd_apply, dS_apply, qg_apply, kg_apply, od_apply]
  unfold Head.dv Head.P
  simp only [ite_mul, zero_mul]

/-- The gradient of the first state. -/
def dh0Out {F : FTy → Type} [FloatOps F] (V : Valuation τ sig (Elt F)) :
    (Proc.devRef .tc main_v307 : DevRef τ sig).ty.Contents (Elt F) :=
  addf (mulf (broadcastInDim S2x5x256x512 ![0, 1, 2, 3] bcast_S2x5x256x1_S2x5x256x512_0_1_2_3 (shapeCast _ (extractStridedSlice S1x2x5x256x1 ![0, 0, 0, 0, 0] (res_main_v63 V) slices_S14x2x5x256x1_S1x2x5x256x1_0_0_0_0_0) shapeCasts_S1x2x5x256x1_S2x5x256x1)) (res_main_v299 V)) (shapeCast _ (extractStridedSlice S1x2x5x256x512 ![0, 0, 0, 0, 0] (res_main_v195 V) slices_S14x2x5x256x512_S1x2x5x256x512_0_0_0_0_0) shapeCasts_S1x2x5x256x512_S2x5x256x512)

theorem dh0_apply (d : Fin 256) (v : Fin 512) : dh0Out V (ix4 b h d v) = (head V b h).T 14 d v :=
  step V b h 0 (by decide) _ _ _ _ d v _ _ (T13 V b h d v) (W_apply V 0 b h d v)

end Cert.ReferenceIdeal.Hand
-- ==== Proof.Decode.lean ====
/-
  The reference's decoded operands: the codes, read at an index. Decoding a code changes nothing in exact arithmetic.
-/
module

public import proofs.«01_k».proof.Proof.Ref
public import proofs.«01_k».proof.Proof.Args
public import Idealize.ShloMosaic.Lib.Pipeline.ValueKit
public import Idealize.ShloMosaic.Lib.StableHlo.ReadAt

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value Cert.Gla

variable (m : (ℓ : Loc nD τ sig) → Buf (Elt Ideal) ℓ) (c : Dev nD)

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] := by decide +kernel

theorem reg_0 : reg_main_v4_0 m c = Gen.V m c main_v0 := by
  unfold reg_main_v4_0
  refine (Gen.dats m 0 c).arrAt_eq_of_covers 4 _ (by decide +kernel) fun t hf y => ?_
  obtain ⟨h0, h1, h2, h3, h4, h5, h6, h7⟩ := idx t
  blk_simp
  rw [after0_4]
  unfold out0_4
  rw [View.canon_unit_zero (by funext a; fin_cases a <;> rfl)]
  pointwise [k0_pay1]
  blk_ext! [iblk, h0, h4]

theorem reg_1 : reg_main_v4_1 m c = Gen.V m c main_v1 := by
  unfold reg_main_v4_1
  refine (Gen.dats m 0 c).arrAt_eq_of_covers 5 _ (by decide +kernel) fun t hf y => ?_
  obtain ⟨h0, h1, h2, h3, h4, h5, h6, h7⟩ := idx t
  blk_simp
  rw [after0_5]
  unfold out0_5
  rw [View.canon_unit_zero (by funext a; fin_cases a <;> rfl)]
  pointwise [k0_pay2]
  blk_ext! [iblk, h1, h5]

theorem reg_2 : reg_main_v4_2 m c = Gen.V m c main_v2 := by
  unfold reg_main_v4_2
  refine (Gen.dats m 0 c).arrAt_eq_of_covers 6 _ (by decide +kernel) fun t hf y => ?_
  obtain ⟨h0, h1, h2, h3, h4, h5, h6, h7⟩ := idx t
  blk_simp
  rw [after0_6]
  unfold out0_6
  rw [View.canon_unit_zero (by funext a; fin_cases a <;> rfl)]
  pointwise [k0_pay3]
  blk_ext! [iblk, h2, h6]

theorem reg_3 : reg_main_v4_3 m c = Gen.V m c main_v3 := by
  unfold reg_main_v4_3
  refine (Gen.dats m 0 c).arrAt_eq_of_covers 7 _ (by decide +kernel) fun t hf y => ?_
  obtain ⟨h0, h1, h2, h3, h4, h5, h6, h7⟩ := idx t
  blk_simp
  rw [after0_7]
  unfold out0_7
  rw [View.canon_unit_zero (by funext a; fin_cases a <;> rfl)]
  pointwise [k0_pay4]
  blk_ext! [iblk, h3, h7]

theorem V_v0 (b : Fin 2) (r : Fin 896) (h : Fin 5) (d : Fin 256) :
    Gen.V m c main_v0 (ix2 ⟨b.val * 896 + r.val, by omega⟩ ⟨h.val * 256 + d.val, by omega⟩)
      = m ((c : Thread nD τ).loc main_arg0) (ix4 b r h d) := by
  unfold Gen.V Gen.V0
  after_reads_at

theorem V_v1 (b : Fin 2) (r : Fin 896) (h : Fin 5) (d : Fin 256) :
    Gen.V m c main_v1 (ix2 ⟨b.val * 896 + r.val, by omega⟩ ⟨h.val * 256 + d.val, by omega⟩)
      = m ((c : Thread nD τ).loc main_arg1) (ix4 b r h d) := by
  unfold Gen.V Gen.V0
  after_reads_at

theorem V_v2 (b : Fin 2) (r : Fin 896) (h : Fin 5) (d : Fin 512) :
    Gen.V m c main_v2 (ix2 ⟨b.val * 896 + r.val, by omega⟩ ⟨h.val * 512 + d.val, by omega⟩)
      = m ((c : Thread nD τ).loc main_arg4) (ix4 b r h d) := by
  unfold Gen.V Gen.V0
  after_reads_at

theorem V_v3 (b : Fin 2) (r : Fin 896) (h : Fin 5) (d : Fin 512) :
    Gen.V m c main_v3 (ix2 ⟨b.val * 896 + r.val, by omega⟩ ⟨h.val * 512 + d.val, by omega⟩)
      = m ((c : Thread nD τ).loc main_arg6) (ix4 b r h d) := by
  unfold Gen.V Gen.V0
  after_reads_at

end Cert.ReferenceIdeal.Hand
-- ==== Proof.Exit.lean ====
/-
  The inputs of a head, as the reference's host computation finds them: those of the launch.
-/
module

public import proofs.«01_k».proof.Proof.Decode
public import proofs.«01_k».proof.Proof.Args
public import Idealize.ShloMosaic.Lib.Pipeline.ValueKit
public import Idealize.ShloMosaic.Lib.StableHlo.ReadAt

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value Cert.Gla

variable (m : (ℓ : Loc nD τ sig) → Buf (Elt Ideal) ℓ) (c : Dev nD)

/-- The inputs of a head, from the launch. -/
def argHead (b : Fin 2) (h : Fin 5) : Head :=
  headOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) b h

theorem head_exit (b : Fin 2) (h : Fin 5) : head (exitV m c) b h = argHead m c b h := by
  have e0 := (exit_main_v4_0 m c).trans (reg_0 m c)
  have e1 := (exit_main_v4_1 m c).trans (reg_1 m c)
  have e2 := (exit_main_v4_2 m c).trans (reg_2 m c)
  have e3 := (exit_main_v4_3 m c).trans (reg_3 m c)
  have row : ∀ {N : ℕ} (n : Fin 14) (i : Fin 64) (y : Fin N), (ix2 (⟨b.val * 896 + n.val * 64 + i.val, by omega⟩ : Fin 1792) y)
      = ix2 ⟨b.val * 896 + (⟨n.val * 64 + i.val, by omega⟩ : Fin 896).val, by omega⟩ y :=
    fun n i y => congrArg (fun r => ix2 r y) (Fin.ext (Nat.add_assoc _ _ _))
  unfold head argHead headOf
  refine (Head.mk.injEq ..).mpr ⟨?_, ?_, ?_, ?_, ?_, ?_, ?_, ?_, ?_, ?_, ?_, rfl⟩
  · funext n i d; exact (congrFun e0 _).trans ((congrArg _ (row n i _)).trans (V_v0 m c b _ h d))
  · funext n i d; exact (congrFun e1 _).trans ((congrArg _ (row n i _)).trans (V_v1 m c b _ h d))
  · funext n i d; exact congrFun (exit_main_arg8 m c) _
  · funext n i d; exact (congrFun e2 _).trans ((congrArg _ (row n i _)).trans (V_v2 m c b _ h d))
  · funext n i d; exact (congrFun e3 _).trans ((congrArg _ (row n i _)).trans (V_v3 m c b _ h d))
  · funext n; exact congrFun (exit_main_arg2 m c) _
  · funext n; exact congrFun (exit_main_arg3 m c) _
  · funext n; exact congrFun (exit_main_arg5 m c) _
  · funext n i; exact congrFun (exit_main_arg7 m c) _
  · funext d v; exact congrFun (exit_main_arg9 m c) _
  · funext d v; exact congrFun (exit_main_arg10 m c) _

end Cert.ReferenceIdeal.Hand
-- ==== Proof.Join.lean ====
/-
  The kernel's results and the reference's, side by side: at every index both are the gradient of one head, so from
  equal arguments they are equal.
-/
module

public import proofs.«01_k».proof.Proof.Out
public import proofs.«01_k».proof.Proof.Exit

@[expose] public section

set_option maxRecDepth 16384

noncomputable section

namespace Cert.Join

open Idealize.ShloMosaic Idealize.ShloMosaic.TcCoe Idealize.SL.Sem Cert.Gla
open Cert.KernelIdeal Cert.KernelIdeal.Gen Cert.KernelIdeal.Value Cert.KernelIdeal.Chunk

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (he : ∀ b h, Cert.ReferenceIdeal.Hand.argHead m' c b h = argHead m c b h)
  (hg : ∀ b h n i d, (argHead m c b h).g n i d ≠ ⊤)
include he hg

theorem dq_eq (hv : ∀ b h n, 0 ≤ (argHead m c b h).vs n ∧ (argHead m c b h).vs n ≠ ⊤) :
    Cert.ReferenceIdeal.Value.res_main_v343 (Cert.ReferenceIdeal.Value.exitV m' c)
      = transpose S2x896x5x256 [0, 2, 1, 3] (reg_main_v9_0 m c) transposes_S2x5x896x256_S2x896x5x256_0_2_1_3 := by
  funext j
  obtain ⟨b, r, h, d, rfl⟩ : ∃ b r h d, j = (ix4 b r h d : S2x896x5x256.Idx) := ⟨j 0, j 1, j 2, j 3, eq_ix4 j⟩
  obtain ⟨n, i, hr, rfl⟩ := exists_tok r
  refine (Cert.ReferenceIdeal.Hand.dq_apply _ n b h i d).trans ?_
  rw [Cert.ReferenceIdeal.Hand.head_exit, he, reg_dq m c hg hv]
  pointwise
  exact congrFun (atTok_mk (argHead m c b h).dq n i hr).symm d

theorem dk_eq : Cert.ReferenceIdeal.Hand.dkOut (Cert.ReferenceIdeal.Value.exitV m' c)
      = transpose S2x896x5x256 [0, 2, 1, 3] (reg_main_v9_1 m c) transposes_S2x5x896x256_S2x896x5x256_0_2_1_3 := by
  funext j
  obtain ⟨b, r, h, d, rfl⟩ : ∃ b r h d, j = (ix4 b r h d : S2x896x5x256.Idx) := ⟨j 0, j 1, j 2, j 3, eq_ix4 j⟩
  obtain ⟨n, i, hr, rfl⟩ := exists_tok r
  refine (Cert.ReferenceIdeal.Hand.dk_apply _ n b h i d).trans ?_
  rw [Cert.ReferenceIdeal.Hand.head_exit, he, reg_dk m c hg]
  pointwise
  exact congrFun (atTok_mk (argHead m c b h).dk n i hr).symm d

theorem dv_eq : Cert.ReferenceIdeal.Hand.dvOut (Cert.ReferenceIdeal.Value.exitV m' c)
      = transpose S2x896x5x512 [0, 2, 1, 3] (reg_main_v9_2 m c) transposes_S2x5x896x512_S2x896x5x512_0_2_1_3 := by
  funext j
  obtain ⟨b, r, h, d, rfl⟩ : ∃ b r h d, j = (ix4 b r h d : S2x896x5x512.Idx) := ⟨j 0, j 1, j 2, j 3, eq_ix4 j⟩
  obtain ⟨n, i, hr, rfl⟩ := exists_tok r
  refine (Cert.ReferenceIdeal.Hand.dv_apply _ n b h i d).trans ?_
  rw [Cert.ReferenceIdeal.Hand.head_exit, he, reg_dv m c hg]
  pointwise
  exact congrFun (atTok_mk (argHead m c b h).dv n i hr).symm d

theorem dh0_eq : Cert.ReferenceIdeal.Hand.dh0Out (Cert.ReferenceIdeal.Value.exitV m' c) = reg_main_v9_5 m c := by
  funext j
  obtain ⟨b, h, d, v, rfl⟩ : ∃ b h d v, j = (ix4 b h d v : S2x5x256x512.Idx) := ⟨j 0, j 1, j 2, j 3, eq_ix4 j⟩
  refine (Cert.ReferenceIdeal.Hand.dh0_apply _ b h d v).trans ?_
  rw [Cert.ReferenceIdeal.Hand.head_exit, he, reg_dh0 m c hg]
  rfl

end Cert.Join
-- ==== Proof.lean ====
/-
  The certificate: the frames, and the equality of the kernel's results with the reference's in exact arithmetic.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Run
public import proofs.«01_k».proof.Proof.Gen.ReferenceIdeal.Frame
public import proofs.«01_k».proof.Proof.Gen.ReferenceIdeal.Run
public import proofs.«01_k».proof.Proof.Gates
public import proofs.«01_k».proof.Proof.Join
public import Idealize.ShloMosaic.Adequacy
public import Idealize.ShloMosaic.Init

@[expose] public section

noncomputable section

namespace Cert.Proof

open Idealize.ShloMosaic Idealize.SL.Sem Cert.Kernel

/-- From equal arguments that meet the precondition, both programs end with equal results. -/
theorem algebraic : Cert.algebraic_KernelIdeal_ReferenceIdeal_pre_gates_and_scales := by
  intro m g m' g' hpre hag
  have hp := fun c => Cert.Gates.of_fn (hpre c)
  have he : ∀ c b h, Cert.ReferenceIdeal.Hand.argHead m' c b h = Cert.KernelIdeal.Chunk.argHead m c b h := by
    intro c b h
    obtain ⟨e0, e1, e2, e3, e4, e5, e6, e7, e8, e9, e10⟩ := hag c
    unfold Cert.ReferenceIdeal.Hand.argHead Cert.KernelIdeal.Chunk.argHead
    exact congr (congr (congr (congr (congr (congr (congr (congr (congr (congr (congr (congr (congrArg Cert.Gla.headOf e0) e1) e2)
      e3) e4) e5) e6) e7) e8) e9) e10) rfl) rfl
  have hg : ∀ c b h n i d, (Cert.KernelIdeal.Chunk.argHead m c b h).g n i d ≠ ⊤ := fun c b h n i d => (hp c).1 _
  have hv : ∀ c b h n, 0 ≤ (Cert.KernelIdeal.Chunk.argHead m c b h).vs n
      ∧ (Cert.KernelIdeal.Chunk.argHead m c b h).vs n ≠ ⊤ := fun c b h n => (hp c).2 _
  refine ⟨_, _, _, _, Cert.KernelIdeal.Value.run m g, ?_⟩
  refine (θ_run Cert.ReferenceIdeal.defs _ _).mono (fun r h c => ?_) (Cert.ReferenceIdeal.Value.run m' g')
  obtain ⟨h0, h1, h2, h3, hrest⟩ := h c
  exact ⟨h0.trans (Cert.Join.dq_eq m m' c (he c) (hg c) (hv c)), h1.trans (Cert.Join.dk_eq m m' c (he c) (hg c)),
    h2.trans (Cert.Join.dv_eq m m' c (he c) (hg c)), h3.trans (Cert.Join.dh0_eq m m' c (he c) (hg c)), hrest⟩

/-- Every claim of the certificate. -/
theorem claim : Cert.Claim := ⟨Cert.Kernel.Gen.facts, Cert.KernelIdeal.Gen.facts,
  Cert.ReferenceIdeal.Gen.facts, Cert.Gates.facts,
  fun m ρ _ => Cert.Kernel.Gen.frame m ρ, fun m ρ _ => Cert.KernelIdeal.Gen.frame m ρ,
  fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
